-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)) (v3 : (c : Dev Cert.Kernel6Ideal.nD) → Buf (Elt Ideal) ((c.tc : Thread Cert.Kernel6Ideal.nD Cert.Kernel6Ideal.τ).loc Cert.Kernel6Ideal.main_v25_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_v25_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v86) = v0 c
          ∧ r.2.mem ((c.tc : Thread Cert.Reference6Ideal.nD Cert.Reference6Ideal.τ).loc Cert.Reference6Ideal.main_v89) = v1 c
          ∧ r.2.mem ((c.tc : Thread Cert.Reference6Ideal.nD Cert.Reference6Ideal.τ).loc Cert.Reference6Ideal.main_v92) = v2 c
          ∧ r.2.mem ((c.tc : Thread Cert.Reference6Ideal.nD Cert.Reference6Ideal.τ).loc Cert.Reference6Ideal.main_v95) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_logits.lean ====
abbrev S16 : Shape := ⟨1, ![16]⟩
abbrev S4x4096x4352 : Shape := ⟨3, ![4, 4096, 4352]⟩
abbrev S_ : Shape := ⟨0, ![]⟩
abbrev S4x4096x1152 : Shape := ⟨3, ![4, 4096, 1152]⟩

class Facts : Prop where
  bcast_S_S16 : S_.BroadcastsInDim S16 (![] : Fin 0 → Fin S16.rank)
  slices_S4x4096x4352_S4x4096x1152_0_0_3072 : S4x4096x4352.Slices ![0, 0, 3072] S4x4096x1152
  bitsLt_bf16_f32 : FTy.bits .bf16 < FTy.bits .f32
  bcast_S_S4x4096x1152 : S_.BroadcastsInDim S4x4096x1152 (![] : Fin 0 → Fin S4x4096x1152.rank)

variable [Facts]

def fn {F : FTy → Type} [FloatOps F] (main_arg0 : FVec F S16 .f32) (main_arg1 : FVec F S4x4096x4352 .bf16) : IVec S16 1 × IVec S4x4096x1152 1 :=
  let main_cst : FVec F S_ .f32 := constant S_ .f32 0x7F800000#32
  let main_v0 : FVec F S16 .f32 := broadcastInDim S16 ![] bcast_S_S16 main_cst
  let main_v1 : IVec S16 1 := cmpf .olt main_arg0 main_v0
  let main_v2 : FVec F S4x4096x1152 .bf16 := (extractStridedSlice S4x4096x1152 ![0, 0, 3072] · slices_S4x4096x4352_S4x4096x1152_0_0_3072) main_arg1
  let main_v3 : FVec F S4x4096x1152 .f32 := (extf .f32 · bitsLt_bf16_f32) main_v2
  let main_v4 : FVec F S4x4096x1152 .f32 := Host.absf main_v3
  let main_cst_0 : FVec F S_ .f32 := constant S_ .f32 0x7F800000#32
  let main_v5 : FVec F S4x4096x1152 .f32 := broadcastInDim S4x4096x1152 ![] bcast_S_S4x4096x1152 main_cst_0
  let main_v6 : IVec S4x4096x1152 1 := cmpf .olt main_v4 main_v5
  (main_v1, main_v6)
-- ==== Kernel.lean ====
abbrev S16 : Shape := ⟨1, ![16]⟩
abbrev S4x4096x4352 : Shape := ⟨3, ![4, 4096, 4352]⟩
abbrev S4x4096x1024 : Shape := ⟨3, ![4, 4096, 1024]⟩
abbrev S1x128x1024 : Shape := ⟨3, ![1, 128, 1024]⟩
abbrev S1x128x128 : Shape := ⟨3, ![1, 128, 128]⟩
abbrev S128x128 : Shape := ⟨2, ![128, 128]⟩
abbrev S256x128 : Shape := ⟨2, ![256, 128]⟩
abbrev S256x256 : Shape := ⟨2, ![256, 256]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 3
  | .vmem => 12
  | .smem => 1
  | _ => 0

abbrev bufTy : (tb : Table) → Fin (tcTables nBuf tb) → BufTy
  | .hbm, ⟨0, _⟩ => ⟨S16, .f32⟩
  | .hbm, ⟨1, _⟩ => ⟨S4x4096x4352, .bf16⟩
  | .hbm, ⟨2, _⟩ => ⟨S4x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x1024, .bf16⟩
  | .local _ .vmem, ⟨11, _⟩ => ⟨S1x128x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c32_i32 : BitVec 32 := 32#32
  let c0_i32_0 : BitVec 32 := 0#32
  ![arg0.toNat, v1.toNat, c32_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  ![arg0.toNat, arg1.toNat, c32_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c33_i32 : BitVec 32 := 33#32
  let c0_i32_0 : BitVec 32 := 0#32
  ![arg0.toNat, v1.toNat, c33_i32.toNat]

def cc0_transform_5 (i : grid0.Coords) : Fin 3 → Nat :=
  let arg0 : BitVec 32 := BitVec.ofNat 32 (i 0).val
  let arg1 : BitVec 32 := BitVec.ofNat 32 (i 1).val
  let c33_i32 : BitVec 32 := 33#32
  let c0_i32 : BitVec 32 := 0#32
  ![arg0.toNat, arg1.toNat, c33_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16 : Shape := ⟨1, ![16]⟩
abbrev S4x4096x4352 : Shape := ⟨3, ![4, 4096, 4352]⟩
abbrev S4x4096x1024 : Shape := ⟨3, ![4, 4096, 1024]⟩
abbrev S4x4096x16x64 : Shape := ⟨4, ![4, 4096, 16, 64]⟩
abbrev S4x16x4096x64 : Shape := ⟨4, ![4, 16, 4096, 64]⟩
abbrev S4x4096x128 : Shape := ⟨3, ![4, 4096, 128]⟩
abbrev S4x4096x2x64 : Shape := ⟨4, ![4, 4096, 2, 64]⟩
abbrev S4x2x4096x64 : Shape := ⟨4, ![4, 2, 4096, 64]⟩
abbrev S4x2x8x32x128x64 : Shape := ⟨6, ![4, 2, 8, 32, 128, 64]⟩
abbrev S4x2x32x128x64 : Shape := ⟨5, ![4, 2, 32, 128, 64]⟩
abbrev S_ : Shape := ⟨0, ![]⟩
abbrev S4x2x33x128x64 : Shape := ⟨5, ![4, 2, 33, 128, 64]⟩
abbrev S4x2x32x256x64 : Shape := ⟨5, ![4, 2, 32, 256, 64]⟩
abbrev S4x2x32x256x8x128 : Shape := ⟨6, ![4, 2, 32, 256, 8, 128]⟩
abbrev S4x2x8x32x128x256 : Shape := ⟨6, ![4, 2, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x2x8x1x1x1 : Shape := ⟨6, ![1, 2, 8, 1, 1, 1]⟩
abbrev S4x2x8x32x128x1 : Shape := ⟨6, ![4, 2, 8, 32, 128, 1]⟩
abbrev S4x2x8x32x128x257 : Shape := ⟨6, ![4, 2, 8, 32, 128, 257]⟩
abbrev S4x2x8x32x128 : Shape := ⟨5, ![4, 2, 8, 32, 128]⟩
abbrev S4x2x32x64x8x128 : Shape := ⟨6, ![4, 2, 32, 64, 8, 128]⟩

abbrev nBuf : Space → Nat
  | .hbm => 94
  | .vmem => 0
  | .smem => 0
  | _ => 0

abbrev bufTy : (tb : Table) → Fin (tcTables nBuf tb) → BufTy
  | .hbm, ⟨0, _⟩ => ⟨S16, .f32⟩
  | .hbm, ⟨1, _⟩ => ⟨S4x4096x4352, .bf16⟩
  | .hbm, ⟨2, _⟩ => ⟨S4x4096x1024, .bf16⟩
  | .hbm, ⟨3, _⟩ => ⟨S4x4096x1024, .f32⟩
  | .hbm, ⟨4, _⟩ => ⟨S4x4096x16x64, .f32⟩
  | .hbm, ⟨5, _⟩ => ⟨S4x16x4096x64, .f32⟩
  | .hbm, ⟨6, _⟩ => ⟨S4x4096x128, .bf16⟩
  | .hbm, ⟨7, _⟩ => ⟨S4x4096x128, .f32⟩
  | .hbm, ⟨8, _⟩ => ⟨S4x4096x2x64, .f32⟩
  | .hbm, ⟨9, _⟩ => ⟨S4x2x4096x64, .f32⟩
  | .hbm, ⟨10, _⟩ => ⟨S4x4096x128, .bf16⟩
  | .hbm, ⟨11, _⟩ => ⟨S4x4096x128, .f32⟩
  | .hbm, ⟨12, _⟩ => ⟨S4x4096x2x64, .f32⟩
  | .hbm, ⟨13, _⟩ => ⟨S4x2x4096x64, .f32⟩
  | .hbm, ⟨14, _⟩ => ⟨S4x2x8x32x128x64, .f32⟩
  | .hbm, ⟨15, _⟩ => ⟨S4x2x32x128x64, .f32⟩
  | .hbm, ⟨16, _⟩ => ⟨S4x2x32x128x64, .f32⟩
  | .hbm, ⟨17, _⟩ => ⟨S_, .i32⟩
  | .hbm, ⟨18, _⟩ => ⟨S_, .f32⟩
  | .hbm, ⟨19, _⟩ => ⟨S4x2x33x128x64, .f32⟩
  | .hbm, ⟨20, _⟩ => ⟨S4x2x32x128x64, .f32⟩
  | .hbm, ⟨21, _⟩ => ⟨S4x2x32x256x64, .f32⟩
  | .hbm, ⟨22, _⟩ => ⟨S_, .i32⟩
  | .hbm, ⟨23, _⟩ => ⟨S_, .f32⟩
  | .hbm, ⟨24, _⟩ => ⟨S4x2x33x128x64, .f32⟩
  | .hbm, ⟨25, _⟩ => ⟨S4x2x32x128x64, .f32⟩
  | .hbm, ⟨26, _⟩ => ⟨S4x2x32x256x64, .f32⟩
  | .hbm, ⟨27, _⟩ => ⟨S4x2x32x256x8x128, .f32⟩
  | .hbm, ⟨28, _⟩ => ⟨S4x2x8x32x128x256, .f32⟩
  | .hbm, ⟨29, _⟩ => ⟨S128, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S256, .i32⟩
  | .hbm, ⟨35, _⟩ => ⟨S1x256, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S32, .i32⟩
  | .hbm, ⟨47, _⟩ => ⟨S32x1x1, .i32⟩
  | .hbm, ⟨48, _⟩ => ⟨S1x128x256, .i1⟩
  | .hbm, ⟨49, _⟩ => ⟨S_, .i32⟩
  | .hbm, ⟨50, _⟩ => ⟨S32x1x1, .i32⟩
  | .hbm, ⟨51, _⟩ => ⟨S32x1x1, .i32⟩
  | .hbm, ⟨52, _⟩ => ⟨S_, .i32⟩
  | .hbm, ⟨53, _⟩ => ⟨S32x1x1, .i32⟩
  | .hbm, ⟨54, _⟩ => ⟨S32x1x1, .i32⟩
  | .hbm, ⟨55, _⟩ => ⟨S1x1x256, .i32⟩
  | .hbm, ⟨56, _⟩ => ⟨S32x1x256, .i32⟩
  | .hbm, ⟨57, _⟩ => ⟨S32x1x256, .i32⟩
  | .hbm, ⟨58, _⟩ => ⟨S32x1x256, .i32⟩
  | .hbm, ⟨59, _⟩ => ⟨S_, .i32⟩
  | .hbm, ⟨60, _⟩ => ⟨S32x1x256, .i32⟩
  | .hbm, ⟨61, _⟩ => ⟨S32x1x256, .i1⟩
  | .hbm, ⟨62, _⟩ => ⟨S32x128x256, .i1⟩
  | .hbm, ⟨63, _⟩ => ⟨S32x128x256, .i1⟩
  | .hbm, ⟨64, _⟩ => ⟨S32x128x256, .i1⟩
  | .hbm, ⟨65, _⟩ => ⟨S_, .f32⟩
  | .hbm, ⟨66, _⟩ => ⟨S_, .f32⟩
  | .hbm, ⟨67, _⟩ => ⟨S4x2x8x32x128x256, .i1⟩
  | .hbm, ⟨68, _⟩ => ⟨S4x2x8x32x128x256, .f32⟩
  | .hbm, ⟨69, _⟩ => ⟨S4x2x8x32x128x256, .f32⟩
  | .hbm, ⟨70, _⟩ => ⟨S1x2x8x1x1x1, .f32⟩
  | .hbm, ⟨71, _⟩ => ⟨S4x2x8x32x128x1, .f32⟩
  | .hbm, ⟨72, _⟩ => ⟨S4x2x8x32x128x257, .f32⟩
  | .hbm, ⟨73, _⟩ => ⟨S_, .f32⟩
  | .hbm, ⟨74, _⟩ => ⟨S4x2x8x32x128, .f32⟩
  | .hbm, ⟨75, _⟩ => ⟨S_, .f32⟩
  | .hbm, ⟨76, _⟩ => ⟨S4x2x8x32x128, .f32⟩
  | .hbm, ⟨77, _⟩ => ⟨S4x2x8x32x128, .f32⟩
  | .hbm, ⟨78, _⟩ => ⟨S4x2x8x32x128x1, .f32⟩
  | .hbm, ⟨79, _⟩ => ⟨S4x2x8x32x128x257, .f32⟩
  | .hbm, ⟨80, _⟩ => ⟨S4x2x8x32x128x257, .f32⟩
  | .hbm, ⟨81, _⟩ => ⟨S4x2x8x32x128x257, .f32⟩
  | .hbm, ⟨82, _⟩ => ⟨S_, .f32⟩
  | .hbm, ⟨83, _⟩ => ⟨S4x2x8x32x128, .f32⟩
  | .hbm, ⟨84, _⟩ => ⟨S4x2x8x32x128x1, .f32⟩
  | .hbm, ⟨85, _⟩ => ⟨S4x2x8x32x128x257, .f32⟩
  | .hbm, ⟨86, _⟩ => ⟨S4x2x8x32x128x257, .f32⟩
  | .hbm, ⟨87, _⟩ => ⟨S4x2x8x32x128x256, .f32⟩
  | .hbm, ⟨88, _⟩ => ⟨S4x2x32x64x8x128, .f32⟩
  | .hbm, ⟨89, _⟩ => ⟨S4x2x8x32x128x64, .f32⟩
  | .hbm, ⟨90, _⟩ => ⟨S4x16x4096x64, .f32⟩
  | .hbm, ⟨91, _⟩ => ⟨S4x4096x16x64, .f32⟩
  | .hbm, ⟨92, _⟩ => ⟨S4x4096x1024, .f32⟩
  | .hbm, ⟨93, _⟩ => ⟨S4x4096x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_call1_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_2 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x8192, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S16384x8192, .f32⟩
  | .hbm, ⟨27, _⟩ => ⟨S8192x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x8192 : Shape := ⟨2, ![2048, 8192]⟩
abbrev S1x2048 : Shape := ⟨2, ![1, 2048]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S1x2048, .f32⟩
  | .hbm, ⟨4, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048 : Shape := ⟨1, ![2048]⟩
abbrev S2048x8192 : Shape := ⟨2, ![2048, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S16384x8192 : Shape := ⟨2, ![16384, 8192]⟩
abbrev S8192x2048 : Shape := ⟨2, ![8192, 2048]⟩
abbrev S16384x2048 : Shape := ⟨2, ![16384, 2048]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .bf16⟩
  | .hbm, ⟨2, _⟩ => ⟨S16384x2048, .f32⟩
  | .hbm, ⟨3, _⟩ => ⟨S16384x2048, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x8192 : Shape := ⟨2, ![16384, 8192]⟩
abbrev S8192x2048 : Shape := ⟨2, ![8192, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .bf16⟩
  | .hbm, ⟨2, _⟩ => ⟨S16384x2048, .f32⟩
  | .hbm, ⟨3, _⟩ => ⟨S16384x8192, .f32⟩
  | .hbm, ⟨4, _⟩ => ⟨S8192x2048, .f32⟩
  | .hbm, ⟨5, _⟩ => ⟨S16384x2048, .f32⟩
  | .hbm, ⟨6, _⟩ => ⟨S16384x2048, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x512 : Shape := ⟨2, ![16384, 512]⟩
abbrev S16384x1024 : Shape := ⟨2, ![16384, 1024]⟩
abbrev S512 : Shape := ⟨1, ![512]⟩
abbrev S1024 : Shape := ⟨1, ![1024]⟩
abbrev S2048x2048 : Shape := ⟨2, ![2048, 2048]⟩
abbrev S16384x2048 : Shape := ⟨2, ![16384, 2048]⟩
abbrev S2x2048x4352 : Shape := ⟨3, ![2, 2048, 4352]⟩
abbrev S1x512 : Shape := ⟨2, ![1, 512]⟩
abbrev S1x1024 : Shape := ⟨2, ![1, 1024]⟩
abbrev S2048x4352 : Shape := ⟨2, ![2048, 4352]⟩
abbrev S512x512 : Shape := ⟨2, ![512, 512]⟩
abbrev S512x1024 : Shape := ⟨2, ![512, 1024]⟩
abbrev S512x2048 : Shape := ⟨2, ![512, 2048]⟩
abbrev S1x64x4352 : Shape := ⟨3, ![1, 64, 4352]⟩
abbrev S64x4352 : Shape := ⟨2, ![64, 4352]⟩
abbrev S512x1 : Shape := ⟨2, ![512, 1]⟩
abbrev S2048x512 : Shape := ⟨2, ![2048, 512]⟩

abbrev nBuf : Space → Nat
  | .hbm => 14
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S2048x2048, .bf16⟩
  | .hbm, ⟨7, _⟩ => ⟨S16384x2048, .f32⟩
  | .hbm, ⟨8, _⟩ => ⟨S2x2048x4352, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S16384x2048, .f32⟩
  | .hbm, ⟨13, _⟩ => ⟨S2048x4352, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | .local _ .vmem, ⟨12, _⟩ => ⟨S1x64x4352, .f32⟩
  | .local _ .vmem, ⟨13, _⟩ => ⟨S1x64x4352, .f32⟩
  | .local _ .vmem, ⟨14, _⟩ => ⟨S512x2048, .f32⟩
  | .local _ .vmem, ⟨15, _⟩ => ⟨S512x2048, .f32⟩
  | .local _ .vmem, ⟨16, _⟩ => ⟨S64x4352, .bf16⟩
  | .local _ .vmem, ⟨17, _⟩ => ⟨S64x4352, .bf16⟩
  | .local _ .vmem, ⟨18, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x4352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x4352 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x512 : Shape := ⟨2, ![16384, 512]⟩
abbrev S16384x1024 : Shape := ⟨2, ![16384, 1024]⟩
abbrev S512 : Shape := ⟨1, ![512]⟩
abbrev S1024 : Shape := ⟨1, ![1024]⟩
abbrev S2048x2048 : Shape := ⟨2, ![2048, 2048]⟩
abbrev S16384x2048 : Shape := ⟨2, ![16384, 2048]⟩
abbrev S2x2048x4352 : Shape := ⟨3, ![2, 2048, 4352]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S1x2048x4352 : Shape := ⟨3, ![1, 2048, 4352]⟩
abbrev S2048x4352 : Shape := ⟨2, ![2048, 4352]⟩

abbrev nBuf : Space → Nat
  | .hbm => 67
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S2048x2048, .bf16⟩
  | .hbm, ⟨7, _⟩ => ⟨S16384x2048, .f32⟩
  | .hbm, ⟨8, _⟩ => ⟨S2x2048x4352, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x512, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x2048, .f32⟩
  | .hbm, ⟨61, _⟩ => ⟨S2048x2048, .f32⟩
  | .hbm, ⟨62, _⟩ => ⟨S16384x2048, .f32⟩
  | .hbm, ⟨63, _⟩ => ⟨S16384x2048, .f32⟩
  | .hbm, ⟨64, _⟩ => ⟨S1x2048x4352, .f32⟩
  | .hbm, ⟨65, _⟩ => ⟨S2048x4352, .f32⟩
  | .hbm, ⟨66, _⟩ => ⟨S2048x4352, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S2048x4352 : Shape := ⟨2, ![2048, 4352]⟩
abbrev S2x2048x8192 : Shape := ⟨3, ![2, 2048, 8192]⟩
abbrev S2x8192x2048 : Shape := ⟨3, ![2, 8192, 2048]⟩
abbrev S2x2048x2048 : Shape := ⟨3, ![2, 2048, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x2048 : Shape := ⟨2, ![1, 2048]⟩
abbrev S16384x4352 : Shape := ⟨2, ![16384, 4352]⟩
abbrev S2048x8192 : Shape := ⟨2, ![2048, 8192]⟩
abbrev S8192x2048 : Shape := ⟨2, ![8192, 2048]⟩
abbrev S2048x2048 : Shape := ⟨2, ![2048, 2048]⟩
abbrev S512x2048 : Shape := ⟨2, ![512, 2048]⟩
abbrev S512x128 : Shape := ⟨2, ![512, 128]⟩
abbrev S1x64x8192 : Shape := ⟨3, ![1, 64, 8192]⟩
abbrev S1x256x2048 : Shape := ⟨3, ![1, 256, 2048]⟩
abbrev S1x64x2048 : Shape := ⟨3, ![1, 64, 2048]⟩
abbrev S512x4352 : Shape := ⟨2, ![512, 4352]⟩
abbrev S64x8192 : Shape := ⟨2, ![64, 8192]⟩
abbrev S256x2048 : Shape := ⟨2, ![256, 2048]⟩
abbrev S64x2048 : Shape := ⟨2, ![64, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩

abbrev nBuf : Space → Nat
  | .hbm => 38
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4352, .bf16⟩
  | .hbm, ⟨3, _⟩ => ⟨S2x2048x8192, .f32⟩
  | .hbm, ⟨4, _⟩ => ⟨S2x8192x2048, .f32⟩
  | .hbm, ⟨5, _⟩ => ⟨S2x2048x2048, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S1x4096x1x32, .f32⟩
  | .hbm, ⟨26, _⟩ => ⟨S1x4096x4x32, .f32⟩
  | .hbm, ⟨27, _⟩ => ⟨S4096x128, .f32⟩
  | .hbm, ⟨28, _⟩ => ⟨S4096x32, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S1x2048, .f32⟩
  | .hbm, ⟨34, _⟩ => ⟨S16384x4352, .bf16⟩
  | .hbm, ⟨35, _⟩ => ⟨S2048x8192, .bf16⟩
  | .hbm, ⟨36, _⟩ => ⟨S8192x2048, .bf16⟩
  | .hbm, ⟨37, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4352, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x64x8192, .f32⟩
  | .local _ .vmem, ⟨9, _⟩ => ⟨S1x64x8192, .f32⟩
  | .local _ .vmem, ⟨10, _⟩ => ⟨S1x256x2048, .f32⟩
  | .local _ .vmem, ⟨11, _⟩ => ⟨S1x256x2048, .f32⟩
  | .local _ .vmem, ⟨12, _⟩ => ⟨S1x64x2048, .f32⟩
  | .local _ .vmem, ⟨13, _⟩ => ⟨S1x64x2048, .f32⟩
  | .local _ .vmem, ⟨14, _⟩ => ⟨S512x4352, .bf16⟩
  | .local _ .vmem, ⟨15, _⟩ => ⟨S512x4352, .bf16⟩
  | .local _ .vmem, ⟨16, _⟩ => ⟨S64x8192, .bf16⟩
  | .local _ .vmem, ⟨17, _⟩ => ⟨S64x8192, .bf16⟩
  | .local _ .vmem, ⟨18, _⟩ => ⟨S256x2048, .bf16⟩
  | .local _ .vmem, ⟨19, _⟩ => ⟨S256x2048, .bf16⟩
  | .local _ .vmem, ⟨20, _⟩ => ⟨S64x2048, .bf16⟩
  | .local _ .vmem, ⟨21, _⟩ => ⟨S64x2048, .bf16⟩
  | .local _ .vmem, ⟨22, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4352 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16384x2048 : Shape := ⟨2, ![16384, 2048]⟩
abbrev S2048 : Shape := ⟨1, ![2048]⟩
abbrev S2048x4352 : Shape := ⟨2, ![2048, 4352]⟩
abbrev S2x2048x8192 : Shape := ⟨3, ![2, 2048, 8192]⟩
abbrev S2x8192x2048 : Shape := ⟨3, ![2, 8192, 2048]⟩
abbrev S2x2048x2048 : Shape := ⟨3, ![2, 2048, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S16384 : Shape := ⟨1, ![16384]⟩
abbrev S16384x1 : Shape := ⟨2, ![16384, 1]⟩
abbrev S1x2048 : Shape := ⟨2, ![1, 2048]⟩
abbrev S16384x4352 : Shape := ⟨2, ![16384, 4352]⟩
abbrev S4x4096x68x64 : Shape := ⟨4, ![4, 4096, 68, 64]⟩
abbrev S4x4096x8x64 : Shape := ⟨4, ![4, 4096, 8, 64]⟩
abbrev S4x4096x16x64 : Shape := ⟨4, ![4, 4096, 16, 64]⟩
abbrev S4x4096x18x64 : Shape := ⟨4, ![4, 4096, 18, 64]⟩
abbrev S4x4096x2x64 : Shape := ⟨4, ![4, 4096, 2, 64]⟩
abbrev S4x4096x16x32 : Shape := ⟨4, ![4, 4096, 16, 32]⟩
abbrev S1x4096x1x32 : Shape := ⟨4, ![1, 4096, 1, 32]⟩
abbrev S4x4096x18x32 : Shape := ⟨4, ![4, 4096, 18, 32]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 111
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4352, .bf16⟩
  | .hbm, ⟨3, _⟩ => ⟨S2x2048x8192, .f32⟩
  | .hbm, ⟨4, _⟩ => ⟨S2x8192x2048, .f32⟩
  | .hbm, ⟨5, _⟩ => ⟨S2x2048x2048, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x1x32, .f32⟩
  | .hbm, ⟨25, _⟩ => ⟨S4096x32, .f32⟩
  | .hbm, ⟨26, _⟩ => ⟨S4096x1x32, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S2048x4352, .f32⟩
  | .hbm, ⟨44, _⟩ => ⟨S16384x4352, .f32⟩
  | .hbm, ⟨45, _⟩ => ⟨S4x4096x68x64, .f32⟩
  | .hbm, ⟨46, _⟩ => ⟨S4x4096x8x64, .f32⟩
  | .hbm, ⟨47, _⟩ => ⟨S4x4096x16x64, .f32⟩
  | .hbm, ⟨48, _⟩ => ⟨S4x4096x16x64, .f32⟩
  | .hbm, ⟨49, _⟩ => ⟨S4x4096x8x64, .f32⟩
  | .hbm, ⟨50, _⟩ => ⟨S4x4096x18x64, .f32⟩
  | .hbm, ⟨51, _⟩ => ⟨S4x4096x2x64, .f32⟩
  | .hbm, ⟨52, _⟩ => ⟨S4x4096x16x32, .f32⟩
  | .hbm, ⟨53, _⟩ => ⟨S4x4096x16x32, .f32⟩
  | .hbm, ⟨54, _⟩ => ⟨S1x4096x1x32, .f32⟩
  | .hbm, ⟨55, _⟩ => ⟨S4x4096x16x32, .f32⟩
  | .hbm, ⟨56, _⟩ => ⟨S4x4096x16x32, .f32⟩
  | .hbm, ⟨57, _⟩ => ⟨S1x4096x1x32, .f32⟩
  | .hbm, ⟨58, _⟩ => ⟨S4x4096x16x32, .f32⟩
  | .hbm, ⟨59, _⟩ => ⟨S4x4096x16x32, .f32⟩
  | .hbm, ⟨60, _⟩ => ⟨S4x4096x16x32, .f32⟩
  | .hbm, ⟨61, _⟩ => ⟨S1x4096x1x32, .f32⟩
  | .hbm, ⟨62, _⟩ => ⟨S4x4096x16x32, .f32⟩
  | .hbm, ⟨63, _⟩ => ⟨S4x4096x16x32, .f32⟩
  | .hbm, ⟨64, _⟩ => ⟨S1x4096x1x32, .f32⟩
  | .hbm, ⟨65, _⟩ => ⟨S4x4096x16x32, .f32⟩
  | .hbm, ⟨66, _⟩ => ⟨S4x4096x16x32, .f32⟩
  | .hbm, ⟨67, _⟩ => ⟨S4x4096x16x32, .f32⟩
  | .hbm, ⟨68, _⟩ => ⟨S4x4096x16x64, .f32⟩
  | .hbm, ⟨69, _⟩ => ⟨S4x4096x18x32, .f32⟩
  | .hbm, ⟨70, _⟩ => ⟨S4x4096x18x32, .f32⟩
  | .hbm, ⟨71, _⟩ => ⟨S1x4096x1x32, .f32⟩
  | .hbm, ⟨72, _⟩ => ⟨S4x4096x18x32, .f32⟩
  | .hbm, ⟨73, _⟩ => ⟨S4x4096x18x32, .f32⟩
  | .hbm, ⟨74, _⟩ => ⟨S1x4096x1x32, .f32⟩
  | .hbm, ⟨75, _⟩ => ⟨S4x4096x18x32, .f32⟩
  | .hbm, ⟨76, _⟩ => ⟨S4x4096x18x32, .f32⟩
  | .hbm, ⟨77, _⟩ => ⟨S4x4096x18x32, .f32⟩
  | .hbm, ⟨78, _⟩ => ⟨S1x4096x1x32, .f32⟩
  | .hbm, ⟨79, _⟩ => ⟨S4x4096x18x32, .f32⟩
  | .hbm, ⟨80, _⟩ => ⟨S4x4096x18x32, .f32⟩
  | .hbm, ⟨81, _⟩ => ⟨S1x4096x1x32, .f32⟩
  | .hbm, ⟨82, _⟩ => ⟨S4x4096x18x32, .f32⟩
  | .hbm, ⟨83, _⟩ => ⟨S4x4096x18x32, .f32⟩
  | .hbm, ⟨84, _⟩ => ⟨S4x4096x18x32, .f32⟩
  | .hbm, ⟨85, _⟩ => ⟨S4x4096x18x64, .f32⟩
  | .hbm, ⟨86, _⟩ => ⟨S_, .f32⟩
  | .hbm, ⟨87, _⟩ => ⟨S4x4096x8x64, .f32⟩
  | .hbm, ⟨88, _⟩ => ⟨S4x4096x8x64, .f32⟩
  | .hbm, ⟨89, _⟩ => ⟨S4x4096x8x64, .f32⟩
  | .hbm, ⟨90, _⟩ => ⟨S_, .f32⟩
  | .hbm, ⟨91, _⟩ => ⟨S4x4096x8x64, .f32⟩
  | .hbm, ⟨92, _⟩ => ⟨S4x4096x8x64, .f32⟩
  | .hbm, ⟨93, _⟩ => ⟨S4x4096x8x64, .f32⟩
  | .hbm, ⟨94, _⟩ => ⟨S4x4096x16x64, .f32⟩
  | .hbm, ⟨95, _⟩ => ⟨S_, .f32⟩
  | .hbm, ⟨96, _⟩ => ⟨S4x4096x16x64, .f32⟩
  | .hbm, ⟨97, _⟩ => ⟨S4x4096x16x64, .f32⟩
  | .hbm, ⟨98, _⟩ => ⟨S4x4096x2x64, .f32⟩
  | .hbm, ⟨99, _⟩ => ⟨S4x4096x68x64, .f32⟩
  | .hbm, ⟨100, _⟩ => ⟨S16384x4352, .f32⟩
  | .hbm, ⟨101, _⟩ => ⟨S16384x4352, .bf16⟩
  | .hbm, ⟨102, _⟩ => ⟨S1x2048x8192, .f32⟩
  | .hbm, ⟨103, _⟩ => ⟨S2048x8192, .f32⟩
  | .hbm, ⟨104, _⟩ => ⟨S2048x8192, .bf16⟩
  | .hbm, ⟨105, _⟩ => ⟨S1x8192x2048, .f32⟩
  | .hbm, ⟨106, _⟩ => ⟨S8192x2048, .f32⟩
  | .hbm, ⟨107, _⟩ => ⟨S8192x2048, .bf16⟩
  | .hbm, ⟨108, _⟩ => ⟨S1x2048x2048, .f32⟩
  | .hbm, ⟨109, _⟩ => ⟨S2048x2048, .f32⟩
  | .hbm, ⟨110, _⟩ => ⟨S2048x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_5 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_6 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_7 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩

abbrev nD : Nat := 1
abbrev τ : Topo := Topo.v7x

variable {F : FTy → Type} [FloatOps F]
-- ==== Proof.SoftmaxForms.lean ====
/- The two ways of dividing a softmax by its sum, over the extended reals: every weight by the sum before the weighted
   sum of the values, or the weighted sum of the values by the sum of the weights at the end. No program is named here. -/
module

public import Idealize.ShloMosaic.PureOps.Ideal.Laws

@[expose] public section

noncomputable section

namespace Cert.Swa

open Idealize.ShloMosaic

/-- The binary32 pattern of minus infinity denotes the bottom of the extended reals. -/
theorem ofBits_ninf : Ideal.ofBits .f32 0xFF800000#32 = ⊥ := by
  simp [Ideal.ofBits, Ideal.ieee]

/-- The binary32 pattern of plus infinity denotes the top of the extended reals. -/
theorem ofBits_pinf : Ideal.ofBits .f32 0x7F800000#32 = ⊤ := by
  simp [Ideal.ofBits, Ideal.ieee]

/-- A finite sum times a finite factor that is not negative is the sum of the products. -/
theorem sum_mul_of_nonneg {ι : Type} (S : Finset ι) (f : ι → EReal) (c : EReal) (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

/-- The exponential of a logit below plus infinity less a real number: a real number that is not negative, and zero
    where the logit is minus infinity. -/
theorem exp_sub_real (s : EReal) (M : ℝ) (hs : s ≠ ⊤) :
    ∃ e : ℝ, 0 ≤ e ∧ Ideal.exp (s - (M : EReal)) = (e : EReal) ∧ (s = ⊥ → e = 0) ∧ (s ≠ ⊥ → 0 < e) := by
  induction s using EReal.rec with
  | bot => exact ⟨0, le_rfl, by rw [EReal.bot_sub]; rfl, fun _ => rfl, fun h => absurd rfl h⟩
  | top => exact absurd rfl hs
  | coe r =>
    refine ⟨Real.exp (r - M), (Real.exp_pos _).le, ?_, fun h => absurd h (EReal.coe_ne_bot r), fun _ => Real.exp_pos _⟩
    rw [← EReal.coe_sub]; rfl

/-- Dividing at the end and dividing every weight are the same, when the logits `s` and the further logit `k` are below
    plus infinity, some logit is above minus infinity, the number `M` taken off every logit is real, and the two
    families of values agree wherever the logit is above minus infinity. -/
theorem div_end_eq_div_each {n : ℕ} (s v v' : Fin n → EReal) (k : EReal) (M : ℝ) (hs : ∀ j, s j ≠ ⊤) (hk : k ≠ ⊤)
    (j₀ : Fin n) (hj₀ : s j₀ ≠ ⊥) (hv : ∀ j, s j ≠ ⊥ → v j = v' j) :
    Ideal.div (∑ j, Ideal.exp (s j - (M : EReal)) * v j)
        ((∑ j, Ideal.exp (s j - (M : EReal))) + Ideal.exp (k - (M : EReal)))
      = ∑ j, v' j * Ideal.div (Ideal.exp (s j - (M : EReal)))
          ((∑ j, Ideal.exp (s j - (M : EReal))) + Ideal.exp (k - (M : EReal))) := by
  choose e e0 ee ebot epos using fun j => exp_sub_real (s j) M (hs j)
  obtain ⟨f, f0, fe, -, -⟩ := exp_sub_real k M hk
  have hsum : (∑ j, Ideal.exp (s j - (M : EReal))) = ((∑ j, e j : ℝ) : EReal) := by
    rw [Finset.sum_congr rfl fun j _ => ee j]
    exact (map_sum (⟨⟨Real.toEReal, EReal.coe_zero⟩, EReal.coe_add⟩ : ℝ →+ EReal) e Finset.univ).symm
  have hZ : 0 < (∑ j, e j) + f :=
    add_pos_of_pos_of_nonneg (Finset.sum_pos' (fun j _ => e0 j) ⟨j₀, Finset.mem_univ _, epos j₀ hj₀⟩) f0
  rw [hsum, fe, ← EReal.coe_add]
  generalize (∑ j, e j) + f = Z at hZ
  have hZ0 : (Z : EReal) ≠ 0 := by exact_mod_cast hZ.ne'
  unfold Ideal.div
  simp only [if_neg hZ0]
  rw [← EReal.coe_inv, sum_mul_of_nonneg _ _ _ (by exact_mod_cast (inv_pos.2 hZ).le) (EReal.coe_ne_top _)]
  refine Finset.sum_congr rfl fun j _ => ?_
  rw [ee j]
  by_cases h : s j = ⊥
  · simp [ebot j h]
  · rw [hv j h, mul_comm (e j : EReal), mul_assoc]

/-- The largest of finitely many logits below plus infinity, some of them above minus infinity, is a real number. -/
theorem fold_max_real {n : ℕ} (s : Fin n → EReal) (hs : ∀ j, s j ≠ ⊤) (j₀ : Fin n) (hj₀ : s j₀ ≠ ⊥) :
    ∃ M : ℝ, Finset.univ.fold max ⊥ s = (M : EReal) := by
  have ht : Finset.univ.fold max ⊥ s < ⊤ :=
    (Finset.fold_max_lt _).2 ⟨bot_lt_top, fun j _ => lt_top_iff_ne_top.2 (hs j)⟩
  have hb : ⊥ < Finset.univ.fold max ⊥ s :=
    lt_of_lt_of_le (bot_lt_iff_ne_bot.2 hj₀) (Finset.le_fold_max _ |>.2 (Or.inr ⟨j₀, Finset.mem_univ _, le_rfl⟩))
  exact ⟨_, (EReal.coe_toReal ht.ne hb.ne').symm⟩

/-- The kernel's division at the end equals the softmax's division of every weight, at the logits' own maximum. -/
theorem softmax_forms {n : ℕ} (s v v' : Fin n → EReal) (k : EReal) (hs : ∀ j, s j ≠ ⊤) (hk : k ≠ ⊤)
    (j₀ : Fin n) (hj₀ : s j₀ ≠ ⊥) (hv : ∀ j, s j ≠ ⊥ → v j = v' j) (m : EReal)
    (hm : m = max (Finset.univ.fold max ⊥ s) k) :
    Ideal.div (∑ j, Ideal.exp (s j - m) * v j) ((∑ j, Ideal.exp (s j - m)) + Ideal.exp (k - m))
      = ∑ j, v' j * Ideal.div (Ideal.exp (s j - m)) ((∑ j, Ideal.exp (s j - m)) + Ideal.exp (k - m)) := by
  obtain ⟨M, hM⟩ := fold_max_real s hs j₀ hj₀
  have : ∃ R : ℝ, m = (R : EReal) := by
    rw [hm, hM]
    rcases le_total k (M : EReal) with h | h
    · exact ⟨M, max_eq_left h⟩
    · refine ⟨k.toReal, ?_⟩
      rw [max_eq_right h, EReal.coe_toReal hk]
      rintro rfl
      exact (EReal.bot_lt_coe M).not_ge h
  obtain ⟨R, rfl⟩ := this
  exact div_end_eq_div_each s v v' k R hs hk j₀ hj₀ hv

/-- Which of the 256 keys of its band row `r` of block `n` attends to: key `j` stands at `128 (n - 1) + j`, the row at
    `128 n + r`, and the row sees itself and the 127 rows before it, from row 0 on. -/
def Live (n r j : ℕ) : Prop := r < j ∧ j ≤ r + 128 ∧ (n = 0 → 128 ≤ j)

instance (n r j : ℕ) : Decidable (Live n r j) := by unfold Live; infer_instance

/-- A row's position less a key's, as words, is their difference as integers. -/
theorem toInt_delta (r : Fin 128) (j : Fin 256) :
    (IntOp.subi (IntOp.addi (BitVec.ofNat 32 r) 128#32) (BitVec.ofNat 32 j)).toInt = (r.val : ℤ) + 128 - j.val := by
  show (BitVec.ofNat 32 r.val + 128#32 - BitVec.ofNat 32 j.val).toInt = _
  rw [BitVec.toInt_eq_toNat_cond]
  simp only [BitVec.toNat_sub, BitVec.toNat_add, BitVec.toNat_ofNat]
  split <;> omega

/-- A key's position in the sequence, as words, is the position as an integer. -/
theorem toInt_position (n : Fin 32) (j : Fin 256) :
    (IntOp.addi (IntOp.muli (IntOp.subi (BitVec.ofNat 32 n) 1#32) 128#32) (BitVec.ofNat 32 j)).toInt
      = ((n.val : ℤ) - 1) * 128 + j.val := by
  show ((BitVec.ofNat 32 n.val - 1#32) * 128#32 + BitVec.ofNat 32 j.val).toInt = _
  rw [BitVec.toInt_eq_toNat_cond]
  simp only [BitVec.toNat_sub, BitVec.toNat_add, BitVec.toNat_mul, BitVec.toNat_ofNat]
  split <;> omega

/-- The conjunction of two propositions' bits is their conjunction's bit. -/
theorem andi_bit (p q : Prop) [Decidable p] [Decidable q] :
    IntOp.andi (BitVec.ofBool (decide p)) (BitVec.ofBool (decide q)) = BitVec.ofBool (decide (p ∧ q)) := by
  by_cases hp : p <;> by_cases hq : q <;> simp only [hp, hq, and_self, and_true, and_false, decide_true, decide_false] <;> rfl

/-- The mask's word is the bit of `Live`. -/
theorem live_word (n : Fin 32) (r : Fin 128) (j : Fin 256) :
    IntOp.andi (IntOp.andi (IntOp.cmpi .sge (IntOp.subi (IntOp.addi (BitVec.ofNat 32 r) 128#32) (BitVec.ofNat 32 j)) 0#32)
      (IntOp.cmpi .slt (IntOp.subi (IntOp.addi (BitVec.ofNat 32 r) 128#32) (BitVec.ofNat 32 j)) 128#32))
      (IntOp.cmpi .sge (IntOp.addi (IntOp.muli (IntOp.subi (BitVec.ofNat 32 n) 1#32) 128#32) (BitVec.ofNat 32 j)) 0#32)
      = BitVec.ofBool (decide (Live n r j)) := by
  have sge (x y : BitVec 32) : IntOp.cmpi .sge x y = BitVec.ofBool (decide (y.toInt ≤ x.toInt)) := rfl
  have slt (x y : BitVec 32) : IntOp.cmpi .slt x y = BitVec.ofBool (decide (x.toInt < y.toInt)) := rfl
  have h0 : (0#32 : BitVec 32).toInt = 0 := rfl
  have h128 : (128#32 : BitVec 32).toInt = 128 := rfl
  rw [sge, slt, sge, toInt_delta, toInt_position, andi_bit, andi_bit, h0, h128]
  congr 1
  refine decide_eq_decide.2 ?_
  unfold Live
  omega

/-- A selection by a proposition's bit. -/
theorem select_bit {α : Type} (p : Prop) [Decidable p] (a b : α) :
    Scalar.select (BitVec.ofBool (decide p)) a b = if p then a else b := by
  by_cases h : p <;> simp [h, Scalar.select]

/-- A row's attention, divided at the end: the values weighted by the exponentials of the logits less the largest of
    them and of the sink, by the sum of those exponentials and the sink's. -/
def divEnd (s v : Fin 256 → EReal) (k : EReal) : EReal :=
  Ideal.div (∑ j, Ideal.exp (s j - max (Finset.univ.fold max ⊥ s) k) * v j)
    ((∑ j, Ideal.exp (s j - max (Finset.univ.fold max ⊥ s) k)) + Ideal.exp (k - max (Finset.univ.fold max ⊥ s) k))

/-- A row's attention, every weight divided: a softmax over the logits and the sink, the sink's own weight dropped. -/
def divEach (s v : Fin 256 → EReal) (k : EReal) : EReal :=
  ∑ j, v j * Ideal.div (Ideal.exp (s j - max (Finset.univ.fold max ⊥ s) k))
    ((∑ j, Ideal.exp (s j - max (Finset.univ.fold max ⊥ s) k)) + Ideal.exp (k - max (Finset.univ.fold max ⊥ s) k))

/-- The two are equal for logits and a sink below plus infinity, some logit above minus infinity; the values need agree
    only where the logit is above minus infinity. -/
theorem divEnd_eq_divEach (s v v' : Fin 256 → EReal) (k : EReal) (hs : ∀ j, s j ≠ ⊤) (hk : k ≠ ⊤)
    (j₀ : Fin 256) (hj₀ : s j₀ ≠ ⊥) (hv : ∀ j, s j ≠ ⊥ → v j = v' j) : divEnd s v k = divEach s v' k :=
  softmax_forms s v v' k hs hk j₀ hj₀ hv _ rfl

/-- A row's masked scores: the query times the key on the live keys of the band, minus infinity elsewhere. -/
def score (n r : ℕ) (q : Fin 64 → EReal) (k : Fin 256 → Fin 64 → EReal) (j : Fin 256) : EReal :=
  if Live n r j then ∑ d, k j d * q d else ⊥

/-- A sum of products of real numbers is a real number. -/
theorem sum_real {n : ℕ} (a b : Fin n → EReal) (ha : ∀ d, a d ≠ ⊤ ∧ a d ≠ ⊥) (hb : ∀ d, b d ≠ ⊤ ∧ b d ≠ ⊥) :
    ∃ x : ℝ, ∑ d, a d * b d = (x : EReal) := by
  refine ⟨∑ d, (a d).toReal * (b d).toReal, ?_⟩
  rw [show ((∑ d, (a d).toReal * (b d).toReal : ℝ) : EReal) = ∑ d, (((a d).toReal * (b d).toReal : ℝ) : EReal) from
    map_sum (⟨⟨Real.toEReal, EReal.coe_zero⟩, EReal.coe_add⟩ : ℝ →+ EReal) _ Finset.univ]
  refine Finset.sum_congr rfl fun d _ => ?_
  rw [EReal.coe_mul, EReal.coe_toReal (ha d).1 (ha d).2, EReal.coe_toReal (hb d).1 (hb d).2]

/-- A row's attention from finite queries and live keys and a sink below plus infinity: the kernel's keys and values,
    which may be anything off the mask, divided at the end, against the reference's, every weight divided. -/
theorem attention_eq (n : ℕ) (r : Fin 128) (q : Fin 64 → EReal) (k k' : Fin 256 → Fin 64 → EReal) (v v' : Fin 256 → EReal)
    (snk : EReal) (hq : ∀ d, q d ≠ ⊤ ∧ q d ≠ ⊥) (hk : ∀ (j : Fin 256) d, Live n r j → k' j d ≠ ⊤ ∧ k' j d ≠ ⊥) (hs : snk ≠ ⊤)
    (ek : ∀ (j : Fin 256) d, Live n r j → k j d = k' j d) (ev : ∀ j : Fin 256, Live n r j → v j = v' j) :
    divEnd (score n r q k) v snk = divEach (score n r q k') v' snk := by
  have es : score n r q k = score n r q k' := by
    funext j
    unfold score
    split
    next h => exact Finset.sum_congr rfl fun d _ => by rw [ek j d h]
    next => rfl
  have hl : ∀ j : Fin 256, Live n r j → ∃ x : ℝ, score n r q k' j = (x : EReal) := fun j h => by
    unfold score
    rw [if_pos h]
    exact sum_real _ _ (fun d => hk j d h) hq
  rw [es]
  refine divEnd_eq_divEach _ v v' snk (fun j => ?_) hs ⟨r.val + 128, by omega⟩ ?_ fun j hj => ev j ?_
  · by_cases h : Live n r j
    · obtain ⟨x, hx⟩ := hl j h
      rw [hx]; exact EReal.coe_ne_top x
    · unfold score; rw [if_neg h]; exact bot_ne_top
  · obtain ⟨x, hx⟩ := hl ⟨r.val + 128, by omega⟩ ⟨by simp only; omega, by simp only; omega, fun _ => by simp only; omega⟩
    rw [hx]; exact EReal.coe_ne_bot x
  · by_contra h
    exact hj (if_neg h)

end Cert.Swa

end
-- ==== Proof.SwaBody.lean ====
/- The kernel's body as one function of a pair of heads, read at an index. -/
module

public import proofs.«01_k».proof.Proof.Gen.KernelIdeal.Value
public import proofs.«01_k».proof.Proof.SoftmaxForms
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

/-- One head's masked scores: its queries, zero on the other head's lanes, against the band's keys. -/
def scores (q : FVec Ideal S128x128 .bf16) (k : FVec Ideal S256x128 .bf16) (ok : IVec S128x256 1) : FVec Ideal S128x256 .f32 :=
  select ok (matmul dot_S128x128_S256x128_S128x256_1_1_0_0_n_n none q k (constant S128x256 .f32 0x00000000#32))
    (broadcast S128x256 (Named.named κ "mask" 0xF149F2CA#32))

/-- Each row's maximum of its scores and the head's sink. -/
def rowMax (s : FVec Ideal S128x256 .f32) (sink : Elt Ideal .f32) : FVec Ideal S128x1 .f32 :=
  maximumf (shapeCast S128x1 (multiReduction .maximumf [1] S128 s 0xFF800000#32 reduces_S128x256_S128 (.inl rfl) rfl) shapeCasts_S128_S128x1)
    (broadcast S128x1 sink)

/-- The exponentials' product with the values and the ones beside them. -/
def sums (s : FVec Ideal S128x256 .f32) (mx : FVec Ideal S128x1 .f32) (v : FVec Ideal S256x256 .bf16) : FVec Ideal S128x256 .f32 :=
  matmul dot_S128x256_S256x256_S128x256_1_0_0_1_n_n none
    (truncf .bf16 (exp (subf s (broadcastTo S128x256 mx broadcasts_S128x1_S128x256))) bitsLt_bf16_f32) v
    (constant S128x256 .f32 0x00000000#32)

/-- One head's result: the weighted values by the weights' sum and the sink's weight. -/
def head (s : FVec Ideal S128x256 .f32) (v : FVec Ideal S256x256 .bf16) (sink : Elt Ideal .f32) : FVec Ideal S128x128 .f32 :=
  divf (extractStridedSlice S128x128 ![0, 0] (sums s (rowMax s sink) v) slices_S128x256_o0_0_S128x128)
    (addf (extractStridedSlice S128x128 ![0, 128] (sums s (rowMax s sink) v) slices_S128x256_o0_128_S128x128)
      (broadcastTo S128x128 (exp (subf (broadcast S128x1 sink) (rowMax s sink))) broadcasts_S128x1_S128x128))

/-- A pair of heads: the first on the low 64 lanes, the second on the high ones. -/
def pair (q : Vec Ideal S1x128x128 .bf16) (k : FVec Ideal S256x128 .bf16) (v : FVec Ideal S256x256 .bf16) (ok : IVec S128x256 1)
    (s0 s1 : Elt Ideal .f32) : FVec Ideal S1x128x128 .bf16 :=
  shapeCast S1x128x128 (truncf .bf16 (select k0_pay14
    (head (scores (select (k0_pay15 (F := Ideal)) (k0_pay16 q) (k0_pay17 (F := Ideal))) k ok) v s0)
    (head (scores (select (k0_pay15 (F := Ideal)) (k0_pay17 (F := Ideal)) (k0_pay16 q)) k ok) v s1)) bitsLt_bf16_f32) shapeCasts_S128x128_S1x128x128

/-- The mask of block `n`. -/
abbrev okAt (n : ℕ) : IVec S128x256 1 :=
  k0_pay13 (BitVec.ofNat 32 n) (iota Kind.tc S128x256 32 [1] iota_S128x256_d1_w32) k0_pay12 1#32

/-- The mask's bits. -/
theorem okAt_at (n : Fin 32) (r : Fin 128) (j : Fin 256) :
    okAt n (ix2 r j) = BitVec.ofBool (decide (Swa.Live n r j)) := by
  unfold okAt
  pointwise [k0_pay13, k0_pay12]
  exact Swa.live_word n r j

/-- A lane of the low half, by its index as a word. -/
theorem lane_word (l : Fin 128) : IntOp.cmpi .slt (BitVec.ofNat 32 l) 64#32 = BitVec.ofBool (decide (l.val < 64)) := by
  revert l; decide +kernel

/-- The lanes of the low half, tested on 32-bit words. -/
theorem pay14_at (r l : Fin 128) : k0_pay14 (ix2 r l) = BitVec.ofBool (decide (l.val < 64)) := by
  pointwise [k0_pay14]
  exact lane_word l

/-- A lane's index as a word is itself as an integer. -/
theorem lane_toInt (l : Fin 128) : (BitVec.ofNat 32 l).toInt = (l.val : ℤ) := by
  revert l; decide +kernel

/-- The bfloat16 pattern of 64. -/
theorem ofBits_64 : Ideal.ofBits .bf16 0x4280#16 = ((64 : ℝ) : EReal) := by
  simp [Ideal.ofBits, Ideal.ieee]
  rw [← EReal.coe_mul]
  norm_num

/-- The same, tested on floats. -/
theorem pay15_at (r l : Fin 128) : k0_pay15 (F := Ideal) (ix2 r l) = BitVec.ofBool (decide (l.val < 64)) := by
  pointwise [k0_pay15]
  have h : (FloatOps.sitofp (F := Ideal) FTy.f32 (BitVec.ofNat 32 l.val)) = (((l.val : ℝ)) : EReal) := by
    show (((BitVec.ofNat 32 l.val).toInt : ℝ) : EReal) = _
    rw [lane_toInt]; norm_cast
  rw [h, ofBits_64]
  congr 1
  refine decide_eq_decide.2 ?_
  rw [EReal.coe_lt_coe_iff]
  exact_mod_cast Iff.rfl

/-- A score. -/
theorem scores_at (q : FVec Ideal S128x128 .bf16) (k : FVec Ideal S256x128 .bf16) (ok : IVec S128x256 1) (r : Fin 128) (j : Fin 256) :
    scores q k ok (ix2 r j) = Scalar.select (ok (ix2 r j)) (∑ l, q (ix2 r l) * k (ix2 j l)) ⊥ := by
  pointwise [scores]
  rw [IdealRules.named_const.ideal_named_scalar κ "mask" _ ⊥ rfl]

/-- A row's maximum. -/
theorem rowMax_at (s : FVec Ideal S128x256 .f32) (sink : Elt Ideal .f32) (r : Fin 128) :
    rowMax s sink (ix2 r 0) = max (Finset.univ.fold max ⊥ fun j => s (ix2 r j)) sink := by
  pointwise [rowMax]
  rw [Swa.ofBits_ninf]

/-- A weighted sum over the band. -/
theorem sums_at (s : FVec Ideal S128x256 .f32) (mx : FVec Ideal S128x1 .f32) (v : FVec Ideal S256x256 .bf16) (r : Fin 128) (l : Fin 256) :
    sums s mx v (ix2 r l) = ∑ j, Ideal.exp (s (ix2 r j) - mx (ix2 r 0)) * v (ix2 j l) := by
  pointwise [sums]

/-- A head's result, from its values and the ones beside them. -/
theorem head_at (s : FVec Ideal S128x256 .f32) (v : FVec Ideal S256x256 .bf16) (sink : Elt Ideal .f32) (r l : Fin 128)
    (h1 : ∀ j, v (ix2 j ⟨128 + l.val, by omega⟩) = 1) :
    head s v sink (ix2 r l) = Swa.divEnd (fun j => s (ix2 r j)) (fun j => v (ix2 j ⟨l.val, by omega⟩)) sink := by
  pointwise [head]
  simp only [sums_at, rowMax_at, h1, mul_one]
  rfl

/-- The products over 128 lanes, the high ones zero, are those over the low 64. -/
theorem sum_low (q k : Fin 128 → EReal) :
    ∑ l : Fin 128, Scalar.select (BitVec.ofBool (decide (l.val < 64))) (q l) 0 * k l
      = ∑ d : Fin 64, k ⟨d.val, by omega⟩ * q ⟨d.val, by omega⟩ := by
  rw [Fin.sum_univ_two_halves 64 64 rfl]
  simp only [Swa.select_bit, Fin.is_lt, if_true]
  rw [Finset.sum_eq_zero (s := Finset.univ) (f := fun d : Fin 64 => (if 64 + d.val < 64 then q ⟨64 + d.val, by omega⟩ else 0) * k ⟨64 + d.val, by omega⟩)
    fun d _ => by rw [if_neg (by omega), zero_mul], add_zero]
  exact Finset.sum_congr rfl fun d _ => mul_comm _ _

/-- The products over 128 lanes, the low ones zero, are those over the high 64. -/
theorem sum_high (q k : Fin 128 → EReal) :
    ∑ l : Fin 128, Scalar.select (BitVec.ofBool (decide (l.val < 64))) 0 (q l) * k l
      = ∑ d : Fin 64, k ⟨64 + d.val, by omega⟩ * q ⟨64 + d.val, by omega⟩ := by
  rw [Fin.sum_univ_two_halves 64 64 rfl]
  simp only [Swa.select_bit, Fin.is_lt, if_true, zero_mul, Finset.sum_const_zero, zero_add]
  refine Finset.sum_congr rfl fun d _ => ?_
  rw [if_neg (by omega)]
  exact mul_comm _ _

/-- A pair of heads at a row and a lane: the attention of the lane's head. -/
theorem pair_at (q : Vec Ideal S1x128x128 .bf16) (k : FVec Ideal S256x128 .bf16) (v : FVec Ideal S256x256 .bf16) (n : Fin 32)
    (s0 s1 : Elt Ideal .f32) (r l : Fin 128) (K V : Fin 256 → Fin 64 → EReal)
    (hk : ∀ j l, k (ix2 j l) = K j ⟨l.val % 64, Nat.mod_lt _ (by norm_num)⟩)
    (hv : ∀ j (l : Fin 128), v (ix2 j ⟨l.val, by omega⟩) = V j ⟨l.val % 64, Nat.mod_lt _ (by norm_num)⟩)
    (h1 : ∀ j (l : Fin 128), v (ix2 j ⟨128 + l.val, by omega⟩) = 1) :
    pair q k v (okAt n) s0 s1 (ix3 0 r l)
      = Swa.divEnd (Swa.score n r (fun d => q (ix3 0 r ⟨l.val / 64 * 64 + d.val, by omega⟩)) K)
          (fun j => V j ⟨l.val % 64, Nat.mod_lt _ (by norm_num)⟩) (if l.val < 64 then s0 else s1) := by
  pointwise [pair]
  rw [pay14_at, Swa.select_bit, head_at _ _ _ _ _ fun j => h1 j l, head_at _ _ _ _ _ fun j => h1 j l]
  simp only [hv, scores_at, okAt_at, Swa.select_bit]
  have e0 : ∀ j, (∑ d, (select (k0_pay15 (F := Ideal)) (k0_pay16 q) (k0_pay17 (F := Ideal))) (ix2 r d) * k (ix2 j d))
      = ∑ d : Fin 64, K j d * q (ix3 0 r ⟨d.val, by omega⟩) := fun j => by
    rw [← Finset.sum_congr rfl fun (d : Fin 128) _ => ?_, sum_low (fun d => q (ix3 0 r d)) (fun d => k (ix2 j d))]
    · exact Finset.sum_congr rfl fun d _ => by rw [hk]; congr 2; exact Fin.ext (Nat.mod_eq_of_lt d.isLt)
    · pointwise [k0_pay16, k0_pay17]
      rw [pay15_at]
      simp only [Swa.select_bit]
      split <;> simp only [zero_mul]
  have e1 : ∀ j, (∑ d, (select (k0_pay15 (F := Ideal)) (k0_pay17 (F := Ideal)) (k0_pay16 q)) (ix2 r d) * k (ix2 j d))
      = ∑ d : Fin 64, K j d * q (ix3 0 r ⟨64 + d.val, by omega⟩) := fun j => by
    rw [← Finset.sum_congr rfl fun (d : Fin 128) _ => ?_, sum_high (fun d => q (ix3 0 r d)) (fun d => k (ix2 j d))]
    · exact Finset.sum_congr rfl fun d _ => by rw [hk]; congr 2; exact Fin.ext (by simp only; omega)
    · pointwise [k0_pay16, k0_pay17]
      rw [pay15_at]
      simp only [Swa.select_bit]
      split <;> simp only [zero_mul]
  simp only [e0, e1]
  by_cases hl : l.val < 64
  · rw [if_pos hl, if_pos hl]
    have : l.val / 64 = 0 := by omega
    unfold Swa.score
    simp only [this, Nat.zero_mul, Nat.zero_add]
  · rw [if_neg hl, if_neg hl]
    have : l.val / 64 = 1 := by omega
    unfold Swa.score
    simp only [this, Nat.one_mul]

/-- A row of the band made of the block before (`x`) and the block itself (`y`). -/
def bandRow (x y : Vec Ideal S1x128x128 .bf16) (j : Fin 256) (l : Fin 128) : EReal :=
  if h : j.val < 128 then x (ix3 0 ⟨j.val, h⟩ l) else y (ix3 0 ⟨j.val - 128, by omega⟩ l)

/-- The low half of the lanes from the lanes themselves, the high half from the lanes turned by 64: the low half twice. -/
theorem low_twice (x y : Vec Ideal S1x128x128 .bf16) (j : Fin 256) (l : Fin 128) :
    Scalar.select (IntOp.cmpi .slt (BitVec.ofNat 32 l) 64#32) (bandRow x y j l) (bandRow x y j ⟨(l.val + 128 - 64) % 128, by omega⟩)
      = bandRow x y j ⟨l.val % 64, by omega⟩ := by
  rw [lane_word, Swa.select_bit]
  split <;> exact congrArg (bandRow x y j) (Fin.ext (by simp only; omega))

/-- The low half of the lanes from the lanes turned by 64, the high half from the lanes themselves: the high half twice. -/
theorem high_twice (x y : Vec Ideal S1x128x128 .bf16) (j : Fin 256) (l : Fin 128) :
    Scalar.select (IntOp.cmpi .slt (BitVec.ofNat 32 l) 64#32) (bandRow x y j ⟨(l.val + 128 - 64) % 128, by omega⟩) (bandRow x y j l)
      = bandRow x y j ⟨64 + l.val % 64, by omega⟩ := by
  rw [lane_word, Swa.select_bit]
  split <;> exact congrArg (bandRow x y j) (Fin.ext (by simp only; omega))

/-- The first group's keys on both halves of the lanes. -/
theorem keys0_at (x y : Vec Ideal S1x128x128 .bf16) (j : Fin 256) (l : Fin 128) :
    k0_pay7 x y (ix2 j l) = bandRow x y j ⟨l.val % 64, by omega⟩ := by
  pointwise [k0_pay7, k0_pay4, k0_pay5, k0_pay2]
  exact low_twice x y j l

/-- The second group's keys on both halves of the lanes. -/
theorem keys1_at (x y : Vec Ideal S1x128x128 .bf16) (j : Fin 256) (l : Fin 128) :
    k0_pay8 x y (ix2 j l) = bandRow x y j ⟨64 + l.val % 64, by omega⟩ := by
  pointwise [k0_pay8, k0_pay4, k0_pay5, k0_pay2]
  exact high_twice x y j l

/-- The first group's values on both halves of the lanes. -/
theorem vals0_at (x y : Vec Ideal S1x128x128 .bf16) (j : Fin 256) (l : Fin 128) :
    k0_pay10 x y (ix2 j ⟨l.val, by omega⟩) = bandRow x y j ⟨l.val % 64, by omega⟩ := by
  pointwise [k0_pay10, k0_pay3, k0_pay6, k0_pay4, k0_pay9]
  exact low_twice x y j l

/-- The second group's values on both halves of the lanes. -/
theorem vals1_at (x y : Vec Ideal S1x128x128 .bf16) (j : Fin 256) (l : Fin 128) :
    k0_pay11 x y (ix2 j ⟨l.val, by omega⟩) = bandRow x y j ⟨64 + l.val % 64, by omega⟩ := by
  pointwise [k0_pay11, k0_pay3, k0_pay6, k0_pay4, k0_pay9]
  exact high_twice x y j l

/-- The ones beside the first group's values. -/
theorem ones0_at (x y : Vec Ideal S1x128x128 .bf16) (j : Fin 256) (l : Fin 128) :
    k0_pay10 x y (ix2 j ⟨128 + l.val, by omega⟩) = 1 := by
  pointwise [k0_pay10, k0_pay3, k0_pay6, k0_pay4, k0_pay9]

/-- The ones beside the second group's values. -/
theorem ones1_at (x y : Vec Ideal S1x128x128 .bf16) (j : Fin 256) (l : Fin 128) :
    k0_pay11 x y (ix2 j ⟨128 + l.val, by omega⟩) = 1 := by
  pointwise [k0_pay11, k0_pay3, k0_pay6, k0_pay4, k0_pay9]

end Cert.KernelIdeal.Value

end
-- ==== Proof.SwaReference.lean ====
/- The reference's result, read at an index. Its operations are named in stages (the banded keys, the masked scores,
   the row of 257 logits, the softmax, the weighted sum), each stage is read at an index, and the last theorem puts
   them together. -/
module

public import proofs.«01_k».proof.Proof.Gen.ReferenceIdeal.Run
public import proofs.«01_k».proof.Proof.SoftmaxForms
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The queries: 16 heads of 64 columns, cut into 32 blocks of 128 rows. -/
def queries (x : FVec Ideal S4x4096x4352 .bf16) : FVec Ideal S4x2x8x32x128x64 .f32 :=
  shapeCast _ (transpose S4x16x4096x64 [0, 2, 1, 3] (shapeCast _ (extf .f32 (extractStridedSlice S4x4096x1024 ![0, 0, 3072] x slices_S4x4096x4352_S4x4096x1024_0_0_3072) bitsLt_bf16_f32) shapeCasts_S4x4096x1024_S4x4096x16x64) transposes_S4x4096x16x64_S4x16x4096x64_0_2_1_3) shapeCasts_S4x16x4096x64_S4x2x8x32x128x64

/-- Two heads of 64 columns, cut into 32 blocks of 128 rows. -/
def blocks (x : FVec Ideal S4x4096x128 .bf16) : FVec Ideal S4x2x32x128x64 .f32 :=
  shapeCast _ (transpose S4x2x4096x64 [0, 2, 1, 3] (shapeCast _ (extf .f32 x bitsLt_bf16_f32) shapeCasts_S4x4096x128_S4x4096x2x64) transposes_S4x4096x2x64_S4x2x4096x64_0_2_1_3) shapeCasts_S4x2x4096x64_S4x2x32x128x64

/-- A band: each block preceded by the one before it, the first by zeros. -/
def band (b : FVec Ideal S4x2x32x128x64 .f32) : FVec Ideal S4x2x32x256x64 .f32 :=
  concatenate S4x2x32x256x64 3 [⟨S4x2x32x128x64, (extractStridedSlice S4x2x32x128x64 ![0, 0, 0, 0, 0] (pad S4x2x33x128x64 ![0, 0, 1, 0, 0] ![0, 0, 0, 0, 0] ![0, 0, 0, 0, 0] b (sitofp .f32 (constantI S_ 32 0#32)) pads_S4x2x32x128x64_S4x2x33x128x64_000_000_100_000_000 h_S_) slices_S4x2x33x128x64_S4x2x32x128x64_0_0_0_0_0)⟩, ⟨S4x2x32x128x64, b⟩] concatenates_S4x2x32x128x64_S4x2x32x128x64_S4x2x32x256x64_d3

/-- The mask: which of a block's 256 band keys each of its 128 rows attends to. -/
def valid : IVec S32x128x256 1 :=
  andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (muli (subi (broadcastInDim S32x1x1 ![0] bcast_S32_S32x1x1_0 (iotaInDim S32 32 0)) (broadcastInDim S32x1x1 ![] bcast_S_S32x1x1 (constantI S_ 32 1#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 0#32))))

/-- The masked scores: a query against its block's band keys, minus infinity off the mask. -/
def scores (q : FVec Ideal S4x2x8x32x128x64 .f32) (k : FVec Ideal S4x2x32x256x64 .f32) : FVec Ideal S4x2x8x32x128x256 .f32 :=
  select (broadcastInDim S4x2x8x32x128x256 ![3, 4, 5] bcast_S32x128x256_S4x2x8x32x128x256_3_4_5 valid) (transpose S4x2x8x32x128x256 [0, 1, 4, 2, 5, 3] (Host.dotGeneral dot_S4x2x32x256x64_S4x2x8x32x128x64_S4x2x32x256x8x128_4_5_3_24_012_013 none k q) transposes_S4x2x32x256x8x128_S4x2x8x32x128x256_0_1_4_2_5_3) (broadcastInDim S4x2x8x32x128x256 ![] bcast_S_S4x2x8x32x128x256 (id (constant S_ .f32 0xFF800000#32)))

/-- The row of 257 logits: the scores and the head's sink. -/
def logits (s : FVec Ideal S4x2x8x32x128x256 .f32) (sinks : FVec Ideal S16 .f32) : FVec Ideal S4x2x8x32x128x257 .f32 :=
  concatenate S4x2x8x32x128x257 5 [⟨S4x2x8x32x128x256, s⟩, ⟨S4x2x8x32x128x1, (broadcastInDim S4x2x8x32x128x1 ![0, 1, 2, 3, 4, 5] bcast_S1x2x8x1x1x1_S4x2x8x32x128x1_0_1_2_3_4_5 (shapeCast _ sinks shapeCasts_S16_S1x2x8x1x1x1))⟩] concatenates_S4x2x8x32x128x256_S4x2x8x32x128x1_S4x2x8x32x128x257_d5

/-- Each row's largest logit. -/
def rowMax (z : FVec Ideal S4x2x8x32x128x257 .f32) : FVec Ideal S4x2x8x32x128 .f32 :=
  Host.reduce FloatOps.maximumf z (constant S_ .f32 0xFF800000#32) reducesTo_S4x2x8x32x128x257_S4x2x8x32x128_d5 h_S_

/-- The exponentials of the logits less their row's maximum. -/
def exps (z : FVec Ideal S4x2x8x32x128x257 .f32) (mx : FVec Ideal S4x2x8x32x128 .f32) : FVec Ideal S4x2x8x32x128x257 .f32 :=
  Host.exp (subf z (broadcastInDim S4x2x8x32x128x257 ![0, 1, 2, 3, 4, 5] bcast_S4x2x8x32x128x1_S4x2x8x32x128x257_0_1_2_3_4_5 (broadcastInDim S4x2x8x32x128x1 ![0, 1, 2, 3, 4] bcast_S4x2x8x32x128_S4x2x8x32x128x1_0_1_2_3_4 (maximumf (broadcastInDim S4x2x8x32x128 ![] bcast_S_S4x2x8x32x128 (constant S_ .f32 0xFF800000#32)) mx))))

/-- Each row's sum. -/
def rowSum (e : FVec Ideal S4x2x8x32x128x257 .f32) : FVec Ideal S4x2x8x32x128 .f32 :=
  Host.reduceAdd e (constant S_ .f32 0x00000000#32) reducesTo_S4x2x8x32x128x257_S4x2x8x32x128_d5 h_S_

/-- The exponentials by their row's sum. -/
def softmax (e : FVec Ideal S4x2x8x32x128x257 .f32) (sm : FVec Ideal S4x2x8x32x128 .f32) : FVec Ideal S4x2x8x32x128x257 .f32 :=
  Host.divf e (broadcastInDim S4x2x8x32x128x257 ![0, 1, 2, 3, 4, 5] bcast_S4x2x8x32x128x1_S4x2x8x32x128x257_0_1_2_3_4_5 (broadcastInDim S4x2x8x32x128x1 ![0, 1, 2, 3, 4] bcast_S4x2x8x32x128_S4x2x8x32x128x1_0_1_2_3_4 sm))

/-- The weighted sum of the band's values, laid back into rows of 1024 columns. -/
def weighted (p : FVec Ideal S4x2x8x32x128x257 .f32) (v : FVec Ideal S4x2x32x256x64 .f32) : FVec Ideal S4x4096x1024 .bf16 :=
  truncf .bf16 (shapeCast _ (transpose S4x4096x16x64 [0, 2, 1, 3] (shapeCast _ (transpose S4x2x8x32x128x64 [0, 1, 4, 2, 5, 3] (Host.dotGeneral dot_S4x2x32x256x64_S4x2x8x32x128x256_S4x2x32x64x8x128_3_5_4_24_012_013 none v (extractStridedSlice S4x2x8x32x128x256 ![0, 0, 0, 0, 0, 0] p slices_S4x2x8x32x128x257_S4x2x8x32x128x256_0_0_0_0_0_0)) transposes_S4x2x32x64x8x128_S4x2x8x32x128x64_0_1_4_2_5_3) shapeCasts_S4x2x8x32x128x64_S4x16x4096x64) transposes_S4x16x4096x64_S4x4096x16x64_0_2_1_3) shapeCasts_S4x4096x16x64_S4x4096x1024) bitsLt_bf16_f32

/-- The softmax of a row of logits, from the logits. -/
def attend (z : FVec Ideal S4x2x8x32x128x257 .f32) : FVec Ideal S4x2x8x32x128x257 .f32 :=
  softmax (exps z (rowMax z)) (rowSum (exps z (rowMax z)))

/-- The reference's result is its stages, one after another. -/
theorem res_eq (m : (ℓ : Loc nD τ sig) → Buf (Elt Ideal) ℓ) (c : Dev nD) (x : FVec Ideal S4x4096x4352 .bf16)
    (sinks : FVec Ideal S16 .f32) (hx : m ((c.tc : Thread nD τ).loc main_arg1) = x) (hs : m ((c.tc : Thread nD τ).loc main_arg0) = sinks) :
    res_main_v74 m c = weighted
      (attend (logits (scores (queries x)
        (band (blocks (extractStridedSlice S4x4096x128 ![0, 0, 4096] x slices_S4x4096x4352_S4x4096x128_0_0_4096)))) sinks))
      (band (blocks (extractStridedSlice S4x4096x128 ![0, 0, 4224] x slices_S4x4096x4352_S4x4096x128_0_0_4224))) := by
  subst hx hs
  rfl

/-- A query's coordinate is the projection's at the query's row and its head's columns. -/
theorem queries_at (x : FVec Ideal S4x4096x4352 .bf16) (b : Fin 4) (g : Fin 2) (h : Fin 8) (n : Fin 32) (r : Fin 128) (d : Fin 64) :
    queries x (ix6 b g h n r d) = x (ix3 b ⟨n.val * 128 + r.val, by omega⟩ ⟨3072 + (g.val * 8 + h.val) * 64 + d.val, by omega⟩) := by
  unfold queries
  pointwise
  congr 2
  exact Fin.ext (by simp only; omega)

/-- A block's coordinate is the array's at the row and the head's columns. -/
theorem blocks_at (x : FVec Ideal S4x4096x128 .bf16) (b : Fin 4) (g : Fin 2) (n : Fin 32) (r : Fin 128) (d : Fin 64) :
    blocks x (ix5 b g n r d) = x (ix3 b ⟨n.val * 128 + r.val, by omega⟩ ⟨g.val * 64 + d.val, by omega⟩) := by
  unfold blocks
  pointwise

/-- The band's row where it is not the zeros before the first block: the array's row `128 (n - 1) + j`. -/
theorem band_at (x : FVec Ideal S4x4096x128 .bf16) (b : Fin 4) (g : Fin 2) (n : Fin 32) (j : Fin 256) (d : Fin 64)
    (hj : n.val = 0 → 128 ≤ j.val) (p : Fin 4096) (hp : p.val + 128 = n.val * 128 + j.val) (l : Fin 128) (hl : l.val = g.val * 64 + d.val) :
    band (blocks x) (ix5 b g n j d) = x (ix3 b p l) := by
  unfold band
  pointwise
  simp only [blocks_at]
  split
  · rw [dif_pos ⟨⟨by omega, by omega⟩, by omega⟩]
    congr 2 <;> exact Fin.ext (by simp only; omega)
  · congr 2 <;> exact Fin.ext (by simp only; omega)

/-- The mask: the keys `t - 128 < s ≤ t` of the rows from 0 on. -/
theorem valid_at (n : Fin 32) (r : Fin 128) (j : Fin 256) :
    valid (ix3 n r j) = BitVec.ofBool (decide (Swa.Live n r j)) := by
  unfold valid
  pointwise
  exact Swa.live_word n r j

/-- A score on the mask is the product of the query and the key; off it, minus infinity. -/
theorem scores_at (q : FVec Ideal S4x2x8x32x128x64 .f32) (k : FVec Ideal S4x2x32x256x64 .f32) (b : Fin 4) (g : Fin 2) (h : Fin 8) (n : Fin 32) (r : Fin 128) (j : Fin 256) :
    scores q k (ix6 b g h n r j) = if Swa.Live n r j then ∑ d, k (ix5 b g n j d) * q (ix6 b g h n r d) else ⊥ := by
  unfold scores
  pointwise
  rw [valid_at]
  have : (id (constant (F := Ideal) S_ FTy.f32 4286578688#32) ix0) = ⊥ := Swa.ofBits_ninf
  rw [this, Swa.select_bit]

/-- A row's logit is its score, or past the scores its head's sink. -/
theorem logits_at (s : FVec Ideal S4x2x8x32x128x256 .f32) (sinks : FVec Ideal S16 .f32) (b : Fin 4) (g : Fin 2) (h : Fin 8) (n : Fin 32) (r : Fin 128) (j : Fin 257) :
    logits s sinks (ix6 b g h n r j) = if h1 : j.val < 256 then s (ix6 b g h n r ⟨j.val, h1⟩) else sinks (ix1 ⟨g.val * 8 + h.val, by omega⟩) := by
  unfold logits
  pointwise

/-- The index that the reduction over the last axis inserts a coordinate into. -/
theorem lift_eq (hR : S4x2x8x32x128x257.Reduces [5] S4x2x8x32x128) (b : Fin 4) (g : Fin 2) (h : Fin 8) (n : Fin 32) (r : Fin 128) (k : Fin 257) :
    hR.lift (ix5 b g h n r) k = ix6 b g h n r k := by
  funext a
  apply Fin.ext
  fin_cases a <;> rfl

/-- A row's largest logit. -/
theorem rowMax_at (z : FVec Ideal S4x2x8x32x128x257 .f32) (b : Fin 4) (g : Fin 2) (h : Fin 8) (n : Fin 32) (r : Fin 128) :
    rowMax z (ix5 b g h n r) = Finset.univ.fold max ⊥ fun k : Fin 257 => z (ix6 b g h n r k) := by
  have hR : S4x2x8x32x128x257.Reduces [5] S4x2x8x32x128 := by decide
  unfold rowMax
  rw [Host.reduce_eq_fold_single _ _ _ _ hR]
  show Finset.fold max (Ideal.ofBits .f32 0xFF800000#32) _ _ = _
  rw [Swa.ofBits_ninf]
  exact congrArg (fun f => Finset.fold max ⊥ f Finset.univ) (funext fun k => congrArg z (lift_eq hR b g h n r k))

/-- A row's sum. -/
theorem rowSum_at (e : FVec Ideal S4x2x8x32x128x257 .f32) (b : Fin 4) (g : Fin 2) (h : Fin 8) (n : Fin 32) (r : Fin 128) :
    rowSum e (ix5 b g h n r) = ∑ k : Fin 257, e (ix6 b g h n r k) := by
  have hR : S4x2x8x32x128x257.Reduces [5] S4x2x8x32x128 := by decide
  show Ideal.hostReduceAdd _ e (Ideal.ofBits .f32 0x00000000#32) _ = _
  rw [Ideal.hostReduceAdd_single _ hR, Ideal.ofBits_zero_f32, zero_add]
  exact Finset.sum_congr rfl fun k _ => congrArg e (lift_eq hR b g h n r k)

/-- An exponential. -/
theorem exps_at (z : FVec Ideal S4x2x8x32x128x257 .f32) (mx : FVec Ideal S4x2x8x32x128 .f32) (b : Fin 4) (g : Fin 2) (h : Fin 8) (n : Fin 32) (r : Fin 128) (j : Fin 257) :
    exps z mx (ix6 b g h n r j) = Ideal.exp (z (ix6 b g h n r j) - mx (ix5 b g h n r)) := by
  unfold exps
  pointwise
  rw [Swa.ofBits_ninf, max_eq_right bot_le]

/-- A weight. -/
theorem softmax_at (e : FVec Ideal S4x2x8x32x128x257 .f32) (sm : FVec Ideal S4x2x8x32x128 .f32) (b : Fin 4) (g : Fin 2) (h : Fin 8) (n : Fin 32) (r : Fin 128) (j : Fin 257) :
    softmax e sm (ix6 b g h n r j) = Ideal.div (e (ix6 b g h n r j)) (sm (ix5 b g h n r)) := by
  unfold softmax
  pointwise

/-- A result's element: the weighted sum of its head's value column over the band. -/
theorem weighted_at (p : FVec Ideal S4x2x8x32x128x257 .f32) (v : FVec Ideal S4x2x32x256x64 .f32) (b : Fin 4) (t : Fin 4096) (l : Fin 1024)
    (g : Fin 2) (h : Fin 8) (n : Fin 32) (r : Fin 128) (d : Fin 64) (ht : t.val = n.val * 128 + r.val) (hl : l.val = (g.val * 8 + h.val) * 64 + d.val) :
    weighted p v (ix3 b t l) = ∑ j : Fin 256, v (ix5 b g n j d) * p (ix6 b g h n r ⟨j.val, by omega⟩) := by
  unfold weighted
  pointwise
  refine Finset.sum_congr rfl fun j _ => ?_
  congr 3 <;> exact Fin.ext (by simp only; omega)

/-- The largest of 256 numbers and one more. -/
theorem fold_row (s : Fin 256 → EReal) (k : EReal) :
    (Finset.univ.fold max ⊥ fun j : Fin 257 => if h : j.val < 256 then s ⟨j.val, h⟩ else k) = max (Finset.univ.fold max ⊥ s) k := by
  rw [Fin.univ_castSuccEmb, Finset.fold_cons, Finset.fold_map, max_comm]
  congr 1

/-- The exponentials of 256 numbers and one more, added up. -/
theorem sum_row (s : Fin 256 → EReal) (k m : EReal) :
    ∑ j : Fin 257, Ideal.exp ((if h : j.val < 256 then s ⟨j.val, h⟩ else k) - m) = (∑ j, Ideal.exp (s j - m)) + Ideal.exp (k - m) := by
  rw [Fin.sum_univ_castSucc]
  rfl

/-- The keys' band. -/
def keyBand (x : FVec Ideal S4x4096x4352 .bf16) : FVec Ideal S4x2x32x256x64 .f32 :=
  band (blocks (extractStridedSlice S4x4096x128 ![0, 0, 4096] x slices_S4x4096x4352_S4x4096x128_0_0_4096))

/-- The values' band. -/
def valueBand (x : FVec Ideal S4x4096x4352 .bf16) : FVec Ideal S4x2x32x256x64 .f32 :=
  band (blocks (extractStridedSlice S4x4096x128 ![0, 0, 4224] x slices_S4x4096x4352_S4x4096x128_0_0_4224))

/-- The attention, from the projections and the sinks. -/
def attention (x : FVec Ideal S4x4096x4352 .bf16) (sinks : FVec Ideal S16 .f32) : FVec Ideal S4x4096x1024 .bf16 :=
  weighted (attend (logits (scores (queries x) (keyBand x)) sinks)) (valueBand x)

/-- A band key off the first block's padding is the projection's. -/
theorem keyBand_at (x : FVec Ideal S4x4096x4352 .bf16) (b : Fin 4) (g : Fin 2) (n : Fin 32) (j : Fin 256) (d : Fin 64)
    (hj : n.val = 0 → 128 ≤ j.val) (p : Fin 4096) (hp : p.val + 128 = n.val * 128 + j.val) (l : Fin 4352) (hl : l.val = 4096 + g.val * 64 + d.val) :
    keyBand x (ix5 b g n j d) = x (ix3 b p l) := by
  unfold keyBand
  rw [band_at _ b g n j d hj p hp ⟨g.val * 64 + d.val, by omega⟩ rfl]
  pointwise
  congr 2
  exact Fin.ext (by simp only; omega)

/-- A band value off the first block's padding is the projection's. -/
theorem valueBand_at (x : FVec Ideal S4x4096x4352 .bf16) (b : Fin 4) (g : Fin 2) (n : Fin 32) (j : Fin 256) (d : Fin 64)
    (hj : n.val = 0 → 128 ≤ j.val) (p : Fin 4096) (hp : p.val + 128 = n.val * 128 + j.val) (l : Fin 4352) (hl : l.val = 4224 + g.val * 64 + d.val) :
    valueBand x (ix5 b g n j d) = x (ix3 b p l) := by
  unfold valueBand
  rw [band_at _ b g n j d hj p hp ⟨g.val * 64 + d.val, by omega⟩ rfl]
  pointwise
  congr 2
  exact Fin.ext (by simp only; omega)

/-- The attention read at an index: a row's softmax over its band and its head's sink. -/
theorem attention_at (x : FVec Ideal S4x4096x4352 .bf16) (sinks : FVec Ideal S16 .f32) (b : Fin 4) (t : Fin 4096) (l : Fin 1024)
    (g : Fin 2) (h : Fin 8) (n : Fin 32) (r : Fin 128) (d : Fin 64) (ht : t.val = n.val * 128 + r.val) (hl : l.val = (g.val * 8 + h.val) * 64 + d.val) :
    attention x sinks (ix3 b t l) = Swa.divEach
      (Swa.score n r (fun e => x (ix3 b t ⟨3072 + (g.val * 8 + h.val) * 64 + e.val, by omega⟩)) fun j e => keyBand x (ix5 b g n j e))
      (fun j => valueBand x (ix5 b g n j d)) (sinks (ix1 ⟨g.val * 8 + h.val, by omega⟩)) := by
  have et : t = ⟨n.val * 128 + r.val, by omega⟩ := Fin.ext ht
  unfold attention
  rw [weighted_at _ _ b t l g h n r d ht hl]
  obtain ⟨s, es⟩ : ∃ s, s = Swa.score n r (fun e => x (ix3 b t ⟨3072 + (g.val * 8 + h.val) * 64 + e.val, by omega⟩))
      fun j e => keyBand x (ix5 b g n j e) := ⟨_, rfl⟩
  obtain ⟨k, ek⟩ : ∃ k, k = sinks (ix1 ⟨g.val * 8 + h.val, by omega⟩) := ⟨_, rfl⟩
  have hz : ∀ j : Fin 257, logits (scores (queries x) (keyBand x)) sinks (ix6 b g h n r j)
      = if h1 : j.val < 256 then s ⟨j.val, h1⟩ else k := fun j => by
    rw [logits_at, es, ek]
    simp only [scores_at, queries_at, ← et]
    rfl
  unfold attend
  simp only [softmax_at, exps_at, rowSum_at, rowMax_at, hz, fold_row s k, sum_row s k, Fin.is_lt, dite_true]
  rw [← es, ← ek]
  rfl

end Cert.ReferenceIdeal.Value

end
-- ==== Proof.SwaKernel.lean ====
/- The attention kernel's result array: each grid point's eight tiles of 128 columns, one pair of heads each, are the
   reference's attention at the point's block of 128 rows. -/
module

public import proofs.«01_k».proof.Proof.SwaBody
public import proofs.«01_k».proof.Proof.SwaReference
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- Where each window's block lies at a grid point: batch `t / 32`, block of rows `t % 32`. -/
theorem idx : ∀ t : Fin cfg0.N, win0_0.index t = ![0] ∧ win0_1.index t = ![t.val / 32, t.val % 32, 3]
    ∧ win0_2.index t = ![t.val / 32, t.val % 32 - 1, 32] ∧ win0_3.index t = ![t.val / 32, t.val % 32, 32]
    ∧ win0_4.index t = ![t.val / 32, t.val % 32 - 1, 33] ∧ win0_5.index t = ![t.val / 32, t.val % 32, 33]
    ∧ win0_6.index t = ![t.val / 32, t.val % 32, 0] ∧ (grid0.coords t 1).val = t.val % 32 := by decide +kernel

/-- A point's number is below 128. -/
theorem point_lt (t : Fin cfg0.N) : t.val < 128 := t.isLt

/-- The projections as the launch finds them. -/
abbrev proj (c : Dev nD) : FVec Ideal S4x4096x4352 .bf16 := m ((c.tc : Thread nD τ).loc main_arg1)

/-- The sinks as the launch finds them. -/
abbrev sinks (c : Dev nD) : FVec Ideal S16 .f32 := m ((c.tc : Thread nD τ).loc main_arg0)

/-- The query block's entries. -/
theorem q_at (c : Dev nD) (t : Fin cfg0.N) (r : Fin 128) (l : Fin 1024) : X0_1 m c t (ix3 0 r l)
    = proj m c (ix3 ⟨t.val / 32, by have := point_lt t; omega⟩ ⟨t.val % 32 * 128 + r.val, by omega⟩ ⟨3072 + l.val, by omega⟩) := by
  unfold X0_1 Pipeline.Window.fill
  rw [dif_pos (moved0_1 t _)]
  blk_ext [iblk, V, idx t]

/-- The previous key block's entries. -/
theorem k0_at (c : Dev nD) (t : Fin cfg0.N) (r l : Fin 128) : iblk m c 2 t (ix3 0 r l)
    = proj m c (ix3 ⟨t.val / 32, by have := point_lt t; omega⟩ ⟨(t.val % 32 - 1) * 128 + r.val, by omega⟩ ⟨4096 + l.val, by omega⟩) := by
  blk_ext [iblk, V, idx t]

/-- The key block's entries. -/
theorem k1_at (c : Dev nD) (t : Fin cfg0.N) (r l : Fin 128) : iblk m c 3 t (ix3 0 r l)
    = proj m c (ix3 ⟨t.val / 32, by have := point_lt t; omega⟩ ⟨t.val % 32 * 128 + r.val, by omega⟩ ⟨4096 + l.val, by omega⟩) := by
  blk_ext [iblk, V, idx t]

/-- The previous value block's entries. -/
theorem v0_at (c : Dev nD) (t : Fin cfg0.N) (r l : Fin 128) : iblk m c 4 t (ix3 0 r l)
    = proj m c (ix3 ⟨t.val / 32, by have := point_lt t; omega⟩ ⟨(t.val % 32 - 1) * 128 + r.val, by omega⟩ ⟨4224 + l.val, by omega⟩) := by
  blk_ext [iblk, V, idx t]

/-- The value block's entries. -/
theorem v1_at (c : Dev nD) (t : Fin cfg0.N) (r l : Fin 128) : iblk m c 5 t (ix3 0 r l)
    = proj m c (ix3 ⟨t.val / 32, by have := point_lt t; omega⟩ ⟨t.val % 32 * 128 + r.val, by omega⟩ ⟨4224 + l.val, by omega⟩) := by
  blk_ext [iblk, V, idx t]

/-- The sinks' block is the sinks. -/
theorem sink_at (c : Dev nD) (t : Fin cfg0.N) (h : Fin 16) : iblk m c 0 t (ix1 h) = sinks m c (ix1 h) := by
  blk_ext [iblk, V, idx t]

/-- What the precondition says: no sink is plus infinity, every query and every key is finite. -/
def Finite (c : Dev nD) : Prop :=
  (∀ h, sinks m c (ix1 h) ≠ ⊤)
  ∧ ∀ b t (l : Fin 4352), 3072 ≤ l.val → l.val < 4224 → proj m c (ix3 b t l) ≠ ⊤ ∧ proj m c (ix3 b t l) ≠ ⊥

/-- A live key of the kernel's band is the reference's, and finite. -/
theorem key_live (c : Dev nD) (hp : Finite m c) (t : Fin cfg0.N) (g : Fin 2) (r : Fin 128) (j : Fin 256) (d : Fin 64) (l : Fin 128)
    (hl : l.val = g.val * 64 + d.val) (b : Fin 4) (hb : b.val = t.val / 32) (n : Fin 32) (hn : n.val = t.val % 32) (h : Swa.Live n r j) :
    bandRow (iblk m c 2 t) (iblk m c 3 t) j l = ReferenceIdeal.Value.keyBand (proj m c) (ix5 b g n j d)
    ∧ ReferenceIdeal.Value.keyBand (proj m c) (ix5 b g n j d) ≠ ⊤ ∧ ReferenceIdeal.Value.keyBand (proj m c) (ix5 b g n j d) ≠ ⊥ := by
  have ht := point_lt t
  have hj := j.isLt
  rw [ReferenceIdeal.Value.keyBand_at (proj m c) b g n j d h.2.2 ⟨n.val * 128 + j.val - 128, by omega⟩
    (by simp only; have := h.2.2; omega) ⟨4096 + g.val * 64 + d.val, by omega⟩ rfl]
  refine ⟨?_, hp.2 _ _ _ (by simp only; omega) (by simp only; omega)⟩
  have h3 := h.2.2
  unfold bandRow
  split
  · rw [k0_at]
    congr 2 <;> exact Fin.ext (by simp only; omega)
  · rw [k1_at]
    congr 2 <;> exact Fin.ext (by simp only; omega)

/-- A live value of the kernel's band is the reference's. -/
theorem value_live (c : Dev nD) (t : Fin cfg0.N) (g : Fin 2) (r : Fin 128) (j : Fin 256) (d : Fin 64) (l : Fin 128)
    (hl : l.val = g.val * 64 + d.val) (b : Fin 4) (hb : b.val = t.val / 32) (n : Fin 32) (hn : n.val = t.val % 32) (h : Swa.Live n r j) :
    bandRow (iblk m c 4 t) (iblk m c 5 t) j l = ReferenceIdeal.Value.valueBand (proj m c) (ix5 b g n j d) := by
  have ht := point_lt t
  have hj := j.isLt
  have h3 := h.2.2
  rw [ReferenceIdeal.Value.valueBand_at (proj m c) b g n j d h.2.2 ⟨n.val * 128 + j.val - 128, by omega⟩
    (by simp only; omega) ⟨4224 + g.val * 64 + d.val, by omega⟩ rfl]
  unfold bandRow
  split
  · rw [v0_at]
    congr 2 <;> exact Fin.ext (by simp only; omega)
  · rw [v1_at]
    congr 2 <;> exact Fin.ext (by simp only; omega)

/-- A pair of heads at a grid point, from its query tile, its group's keys and values and its two sinks, is the reference's
    attention at the tile's place in the result. -/
theorem pair_eq (c : Dev nD) (hp : Finite m c) (t : Fin cfg0.N) (p : Fin 8) (g : Fin 2) (hg : g.val = p.val / 4)
    (q : Vec Ideal S1x128x128 .bf16) (k : FVec Ideal S256x128 .bf16) (v : FVec Ideal S256x256 .bf16) (s0 s1 : Elt Ideal .f32)
    (hq : ∀ r l, q (ix3 0 r l) = X0_1 m c t (ix3 0 r ⟨p.val * 128 + l.val, by omega⟩))
    (hk : ∀ j l, k (ix2 j l) = bandRow (iblk m c 2 t) (iblk m c 3 t) j ⟨g.val * 64 + l.val % 64, by omega⟩)
    (hv : ∀ j (l : Fin 128), v (ix2 j ⟨l.val, by omega⟩) = bandRow (iblk m c 4 t) (iblk m c 5 t) j ⟨g.val * 64 + l.val % 64, by omega⟩)
    (h1 : ∀ j (l : Fin 128), v (ix2 j ⟨128 + l.val, by omega⟩) = 1)
    (hs0 : s0 = sinks m c (ix1 ⟨p.val * 2, by omega⟩)) (hs1 : s1 = sinks m c (ix1 ⟨p.val * 2 + 1, by omega⟩))
    (r l : Fin 128) (b : Fin 4) (hb : b.val = t.val / 32) (y : Fin 4096) (hy : y.val = t.val % 32 * 128 + r.val)
    (z : Fin 1024) (hz : z.val = p.val * 128 + l.val) :
    pair q k v (okAt (grid0.coords t 1)) s0 s1 (ix3 0 r l)
      = ReferenceIdeal.Value.attention (proj m c) (sinks m c) (ix3 b y z) := by
  have ht := point_lt t
  have hn : (grid0.coords t 1).val = t.val % 32 := (idx t).2.2.2.2.2.2.2
  obtain ⟨n, en⟩ : ∃ n : Fin 32, n.val = t.val % 32 := ⟨⟨t.val % 32, by omega⟩, rfl⟩
  rw [hn, ← en, pair_at q k v n s0 s1 r l
      (fun j d => bandRow (iblk m c 2 t) (iblk m c 3 t) j ⟨g.val * 64 + d.val, by omega⟩)
      (fun j d => bandRow (iblk m c 4 t) (iblk m c 5 t) j ⟨g.val * 64 + d.val, by omega⟩) hk hv h1,
    ReferenceIdeal.Value.attention_at (proj m c) (sinks m c) b y z g ⟨(p.val * 2 + l.val / 64) % 8, by omega⟩ n r
      ⟨l.val % 64, by omega⟩ (by omega) (by simp only; omega)]
  have eh : g.val * 8 + (p.val * 2 + l.val / 64) % 8 = p.val * 2 + l.val / 64 := by omega
  have es : (if l.val < 64 then s0 else s1) = sinks m c (ix1 ⟨g.val * 8 + (p.val * 2 + l.val / 64) % 8, by omega⟩) := by
    split
    · rw [hs0]; congr 2; exact Fin.ext (by simp only; omega)
    · rw [hs1]; congr 2; exact Fin.ext (by simp only; omega)
  have eq : (fun d : Fin 64 => q (ix3 0 r ⟨l.val / 64 * 64 + d.val, by omega⟩))
      = fun d => proj m c (ix3 b y ⟨3072 + (g.val * 8 + (p.val * 2 + l.val / 64) % 8) * 64 + d.val, by omega⟩) := by
    funext d
    rw [hq, q_at]
    congr 2 <;> exact Fin.ext (by simp only; omega)
  rw [es, eq]
  exact Swa.attention_eq n r _ _ _ _ _ _ (fun d => hp.2 _ _ _ (by simp only; omega) (by simp only; omega))
    (fun j d h => (key_live m c hp t g r j d ⟨g.val * 64 + d.val, by omega⟩ rfl b hb n en h).2) (hp.1 _)
    (fun j d h => (key_live m c hp t g r j d ⟨g.val * 64 + d.val, by omega⟩ rfl b hb n en h).1)
    (fun j h => value_live m c t g r j ⟨l.val % 64, by omega⟩ ⟨g.val * 64 + l.val % 64, by omega⟩ rfl b hb n en h)

/-- A tile of the result block, the pair of heads loaded from the point's blocks. -/
theorem tile_eq (c : Dev nD) (hp : Finite m c) (t : Fin cfg0.N) (p : Fin 8) (g : Fin 2) (hg : g.val = p.val / 4)
    (k : FVec Ideal S256x128 .bf16) (v : FVec Ideal S256x256 .bf16)
    (hk : ∀ j l, k (ix2 j l) = bandRow (iblk m c 2 t) (iblk m c 3 t) j ⟨g.val * 64 + l.val % 64, by omega⟩)
    (hv : ∀ j (l : Fin 128), v (ix2 j ⟨l.val, by omega⟩) = bandRow (iblk m c 4 t) (iblk m c 5 t) j ⟨g.val * 64 + l.val % 64, by omega⟩)
    (h1 : ∀ j (l : Fin 128), v (ix2 j ⟨128 + l.val, by omega⟩) = 1)
    (o a a' : ℕ) (ho : o = p.val * 128) (ha : a = p.val * 2) (ha' : a' = p.val * 2 + 1)
    (io : ∀ i, (![0, 0, o] : Fin 3 → ℕ) i + (![1, 128, 128] : Fin 3 → ℕ) i ≤ S1x128x1024.size i)
    (ia : ∀ i, (![a] : Fin 1 → ℕ) i + (![1] : Fin 1 → ℕ) i ≤ S16.size i)
    (ia' : ∀ i, (![a'] : Fin 1 → ℕ) i + (![1] : Fin 1 → ℕ) i ≤ S16.size i) (hf hf')
    (y : ((cfg0.win 6).xblock (cfg0.grid.coords t)).Idx) (x : S1x128x128.Idx)
    (e1 : (y 1).val = (x 1).val) (e2 : (y 2).val = o + (x 2).val) :
    pair (View.ld (X0_1 m c t) (Rect.unit ![0, 0, o] ![1, 128, 128] io)) k v (okAt (grid0.coords t 1))
      (View.ld (iblk m c 0 t) (Rect.unit ![a] ![1] ia) (Shape.Idx.first hf))
      (View.ld (iblk m c 0 t) (Rect.unit ![a'] ![1] ia') (Shape.Idx.first hf')) x
      = ReferenceIdeal.Value.attention (proj m c) (sinks m c) (((View.whole main_v0).slice (win0_6.rect t)).emb y) := by
  have ht := point_lt t
  subst ho ha ha'
  obtain ⟨r, l, rfl⟩ : ∃ r l : Fin 128, x = ix3 0 r l :=
    ⟨x 1, x 2, (eq_ix3 x).trans (by congr 1; exact Subsingleton.elim (α := Fin 1) _ _)⟩
  refine (pair_eq m c hp t p g hg _ k v _ _ (fun r l => ?_) hk hv h1 ?_ ?_ r l ⟨t.val / 32, by omega⟩ rfl
    ⟨t.val % 32 * 128 + r.val, by omega⟩ rfl ⟨p.val * 128 + l.val, by omega⟩ rfl).trans ?_
  · pointwise
  · pointwise
    exact sink_at m c t _
  · pointwise
    exact sink_at m c t _
  · replace e1 : (y 1).val = r.val := e1
    replace e2 : (y 2).val = p.val * 128 + l.val := e2
    blk_ext [idx t]

/-- The first group's keys at a grid point. -/
theorem keys0 (c : Dev nD) (t : Fin cfg0.N) (j : Fin 256) (l : Fin 128) :
    k0_pay7 (iblk m c 2 t) (iblk m c 3 t) (ix2 j l) = bandRow (iblk m c 2 t) (iblk m c 3 t) j ⟨(0 : Fin 2).val * 64 + l.val % 64, by omega⟩ := by
  rw [keys0_at]
  congr 1
  exact Fin.ext (by simp)

/-- The first group's values at a grid point. -/
theorem vals0 (c : Dev nD) (t : Fin cfg0.N) (j : Fin 256) (l : Fin 128) :
    k0_pay10 (iblk m c 4 t) (iblk m c 5 t) (ix2 j ⟨l.val, by omega⟩) = bandRow (iblk m c 4 t) (iblk m c 5 t) j ⟨(0 : Fin 2).val * 64 + l.val % 64, by omega⟩ := by
  rw [vals0_at]
  congr 1
  exact Fin.ext (by simp)

/-- The second group's keys at a grid point. -/
theorem keys1 (c : Dev nD) (t : Fin cfg0.N) (j : Fin 256) (l : Fin 128) :
    k0_pay8 (iblk m c 2 t) (iblk m c 3 t) (ix2 j l) = bandRow (iblk m c 2 t) (iblk m c 3 t) j ⟨(1 : Fin 2).val * 64 + l.val % 64, by omega⟩ := by
  rw [keys1_at]
  congr 1

/-- The second group's values at a grid point. -/
theorem vals1 (c : Dev nD) (t : Fin cfg0.N) (j : Fin 256) (l : Fin 128) :
    k0_pay11 (iblk m c 4 t) (iblk m c 5 t) (ix2 j ⟨l.val, by omega⟩) = bandRow (iblk m c 4 t) (iblk m c 5 t) j ⟨(1 : Fin 2).val * 64 + l.val % 64, by omega⟩ := by
  rw [vals1_at]
  congr 1

/-- The result array after the launch is the reference's attention. -/
theorem result (c : Dev nD) (hp : Finite m c) :
    (dats m 0 c).arrAt 6 cfg0.N = ReferenceIdeal.Value.attention (proj m c) (sinks m c) := by
  refine (dats m 0 c).arrAt_eq_of_covers 6 _ (by decide +kernel) fun t hf y => ?_
  blk_simp
  rw [after0_6]; unfold outsAt0
  unfold out0_A_6
  frame_out
  canon_tiles x h
  case piece7 =>
    exact tile_eq m c hp t 0 0 rfl _ _ (keys0 m c t) (vals0 m c t) (ones0_at _ _) 0 0 1 rfl rfl rfl
      inb_S1x128x1024_S1x128x128_0_0_0 inb_S16_S1_0 inb_S16_S1_1 _ _ y x h1 (h2.trans (Nat.zero_add _).symm)
  case piece6 =>
    exact tile_eq m c hp t 1 0 rfl _ _ (keys0 m c t) (vals0 m c t) (ones0_at _ _) 128 2 3 rfl rfl rfl
      inb_S1x128x1024_S1x128x128_0_0_128 inb_S16_S1_2 inb_S16_S1_3 _ _ y x h1 h2
  case piece5 =>
    exact tile_eq m c hp t 2 0 rfl _ _ (keys0 m c t) (vals0 m c t) (ones0_at _ _) 256 4 5 rfl rfl rfl
      inb_S1x128x1024_S1x128x128_0_0_256 inb_S16_S1_4 inb_S16_S1_5 _ _ y x h1 h2
  case piece4 =>
    exact tile_eq m c hp t 3 0 rfl _ _ (keys0 m c t) (vals0 m c t) (ones0_at _ _) 384 6 7 rfl rfl rfl
      inb_S1x128x1024_S1x128x128_0_0_384 inb_S16_S1_6 inb_S16_S1_7 _ _ y x h1 h2
  case piece3 =>
    exact tile_eq m c hp t 4 1 rfl _ _ (keys1 m c t) (vals1 m c t) (ones1_at _ _) 512 8 9 rfl rfl rfl
      inb_S1x128x1024_S1x128x128_0_0_512 inb_S16_S1_8 inb_S16_S1_9 _ _ y x h1 h2
  case piece2 =>
    exact tile_eq m c hp t 5 1 rfl _ _ (keys1 m c t) (vals1 m c t) (ones1_at _ _) 640 10 11 rfl rfl rfl
      inb_S1x128x1024_S1x128x128_0_0_640 inb_S16_S1_10 inb_S16_S1_11 _ _ y x h1 h2
  case piece1 =>
    exact tile_eq m c hp t 6 1 rfl _ _ (keys1 m c t) (vals1 m c t) (ones1_at _ _) 768 12 13 rfl rfl rfl
      inb_S1x128x1024_S1x128x128_0_0_768 inb_S16_S1_12 inb_S16_S1_13 _ _ y x h1 h2
  case piece0 =>
    exact tile_eq m c hp t 7 1 rfl _ _ (keys1 m c t) (vals1 m c t) (ones1_at _ _) 896 14 15 rfl rfl rfl
      inb_S1x128x1024_S1x128x128_0_0_896 inb_S16_S1_14 inb_S16_S1_15 _ _ y x h1 h2

end Cert.KernelIdeal.Value

end
-- ==== Proof.Dense.lean ====
/- Scalar forms shared by the layer's dense calls: a row normalised by its root mean square, a squared rectified product, and
   a sum taken block by block. -/
module

public import Idealize.ShloMosaic.Lib.Pointwise
public import Idealize.ShloMosaic.Lib.Pipeline.ValueKit

@[expose] public section

noncomputable section

namespace Cert.Dense

open Idealize.ShloMosaic

/-- Entry `k` of a row divided by its root mean square (`len` the row's length, 1e-6 added to the mean) and scaled by a gain. -/
def rms {n : ℕ} (len : EReal) (x g : Fin n → EReal) (k : Fin n) : EReal :=
  x k * Ideal.rsqrt (Ideal.div (∑ j, x j * x j) len + Ideal.ofBits .f32 0x358637BD#32) * g k

/-- The square of the positive part of a row times a column. -/
def relu2 {n : ℕ} (h w : Fin n → EReal) : EReal :=
  max (∑ k, h k * w k) 0 * max (∑ k, h k * w k) 0

/-- A vector's entries, continued by zero. -/
def ext {n : ℕ} (f : Fin n → EReal) (k : ℕ) : EReal := if h : k < n then f ⟨k, h⟩ else 0

theorem ext_of_lt {n : ℕ} (f : Fin n → EReal) (k : ℕ) (h : k < n) : ext f k = f ⟨k, h⟩ := dif_pos h

/-- The sum over the first `b` blocks of `w` entries. -/
def blocks {n : ℕ} (w : ℕ) (f : Fin n → EReal) (b : ℕ) : EReal := ∑ k ∈ Finset.range (w * b), ext f k

/-- No block sums to zero. -/
theorem blocks_zero {n : ℕ} (w : ℕ) (f : Fin n → EReal) : blocks w f 0 = 0 := by simp [blocks]

/-- One more block adds that block's sum. -/
theorem blocks_succ {n : ℕ} (w : ℕ) (f : Fin n → EReal) (b : ℕ) (h : w * b + w ≤ n) :
    blocks w f (b + 1) = blocks w f b + ∑ k : Fin w, f ⟨w * b + k.val, by omega⟩ := by
  unfold blocks
  rw [Nat.mul_succ, Finset.sum_range_add, Finset.sum_range (fun x => ext f (w * b + x))]
  congr 1
  exact Finset.sum_congr rfl fun k _ => ext_of_lt f _ (by omega)

/-- All the blocks together are the whole sum. -/
theorem blocks_all {n : ℕ} (w : ℕ) (f : Fin n → EReal) (b : ℕ) (h : w * b = n) : blocks w f b = ∑ k, f k := by
  unfold blocks
  rw [h, Finset.sum_range]
  exact Finset.sum_congr rfl fun k _ => ext_of_lt f _ k.isLt

end Cert.Dense

end
-- ==== Proof.MlpKernel.lean ====
/- The feed-forward part of the last layer: each block of rows is normalised once and kept, the products with eight blocks of
   the weights are added onto the residual stream in the result's block, and the last of them ends with the closing
   normalisation. The result array is the reference's: the eight sums are one sum. -/
module

public import proofs.«01_k».proof.Proof.Gen.Kernel2Ideal.Value
public import proofs.«01_k».proof.Proof.Gen.Reference2Ideal.Run
public import proofs.«01_k».proof.Proof.Dense
public import Idealize.ShloMosaic.Lib.Pipeline.ReadBack

@[expose] public section

set_option maxRecDepth 16384

noncomputable section

namespace Cert.Reference2Ideal.Value

open Cert.Reference2Ideal Cert.Reference2Ideal.Gen Idealize.ShloMosaic Idealize.ShloMosaic.TcCoe Idealize.SL.Sem

/-- The length of a row, as the programs write it. -/
abbrev len : EReal := Ideal.ofBits .f32 0x45000000#32

/-- The reference's normalisation of its rows. -/
def normed (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32)
      reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- Its entries: the row over its root mean square. -/
theorem normed_at (x : FVec Ideal S16384x2048 .f32) (g : FVec Ideal S2048 .f32) (i : Fin 16384) (k : Fin 2048) :
    normed x g (ix2 i k) = Dense.rms len (fun k => x (ix2 i k)) (fun k => g (ix1 k)) k := by
  unfold Dense.rms
  pointwise [normed]

/-- The reference's activations: squared positive parts of the normalised rows times the first weights. -/
def wide (h : FVec Ideal S16384x2048 .f32) (w : FVec Ideal S2048x8192 .bf16) : FVec Ideal S16384x8192 .f32 :=
  have u := maximumf (Host.dotGeneral dot_S16384x2048_S2048x8192_S16384x8192_1_0_0_1_n_n none h (extf .f32 w bitsLt_bf16_f32))
    (broadcastInDim S16384x8192 ![] bcast_S_S16384x8192 (constant S_ .f32 0x00000000#32))
  mulf u u

/-- Their entries. -/
theorem wide_at (h : FVec Ideal S16384x2048 .f32) (w : FVec Ideal S2048x8192 .bf16) (i : Fin 16384) (j : Fin 8192) :
    wide h w (ix2 i j) = Dense.relu2 (fun k => h (ix2 i k)) (fun k => w (ix2 k j)) := by
  unfold Dense.relu2
  pointwise [wide]

/-- The stream with the activations' product with the second weights added. -/
def summed (x : FVec Ideal S16384x2048 .f32) (a : FVec Ideal S16384x8192 .f32) (w : FVec Ideal S8192x2048 .bf16) : FVec Ideal S16384x2048 .f32 :=
  addf x (Host.dotGeneral dot_S16384x8192_S8192x2048_S16384x2048_1_0_0_1_n_n none a (extf .f32 w bitsLt_bf16_f32))

/-- Its entries. -/
theorem summed_at (x : FVec Ideal S16384x2048 .f32) (a : FVec Ideal S16384x8192 .f32) (w : FVec Ideal S8192x2048 .bf16) (i : Fin 16384) (j : Fin 2048) :
    summed x a w (ix2 i j) = x (ix2 i j) + ∑ k : Fin 8192, a (ix2 i k) * w (ix2 k j) := by
  pointwise [summed]

/-- The reference's result. -/
def mlp (x : FVec Ideal S16384x2048 .f32) (g : FVec Ideal S2048 .f32) (wu : FVec Ideal S2048x8192 .bf16) (wd : FVec Ideal S8192x2048 .bf16)
    (gf : FVec Ideal S2048 .f32) : FVec Ideal S16384x2048 .f32 := normed (summed x (wide (normed x g) wu) wd) gf

/-- The run's composed term is that function of the arguments. -/
theorem res_eq (m : (ℓ : Loc nD τ sig) → Buf (Elt Ideal) ℓ) (c : Dev nD) (x : FVec Ideal S16384x2048 .f32) (g : FVec Ideal S2048 .f32)
    (wu : FVec Ideal S2048x8192 .bf16) (wd : FVec Ideal S8192x2048 .bf16) (gf : FVec Ideal S2048 .f32)
    (hx : m ((c.tc : Thread nD τ).loc main_arg0) = x) (hg : m ((c.tc : Thread nD τ).loc main_arg1) = g)
    (hu : m ((c.tc : Thread nD τ).loc main_arg2) = wu) (hd : m ((c.tc : Thread nD τ).loc main_arg3) = wd)
    (hf : m ((c.tc : Thread nD τ).loc main_arg4) = gf) : res_main_v32 m c = mlp x g wu wd gf := by
  subst hx hg hu hd hf
  rfl

end Cert.Reference2Ideal.Value

namespace Cert.Kernel2Ideal.Value

open Cert.Kernel2Ideal Cert.Kernel2Ideal.Gen Idealize.ShloMosaic Idealize.ShloMosaic.TcCoe Idealize.SL.Sem
open Cert.Reference2Ideal.Value (len)

variable (m : (ℓ : Loc nD τ sig) → Buf (Elt Ideal) ℓ)

/-- Where each window's block lies at a grid point: rows `t / 8`, the weights' block `t % 8`. -/
theorem idx : ∀ t : Fin cfg0.N, win0_0.index t = ![t.val / 8, 0] ∧ win0_1.index t = ![0, 0]
    ∧ win0_2.index t = ![0, t.val % 8] ∧ win0_3.index t = ![t.val % 8, 0] ∧ win0_4.index t = ![0, 0]
    ∧ win0_5.index t = ![t.val / 8, 0] := by decide +kernel

/-- A point's number is below 256. -/
theorem point_lt (t : Fin cfg0.N) : t.val < 256 := t.isLt

/-- The residual stream, the two gains and the two weight matrices as the launch finds them. -/
abbrev stream (c : Dev nD) : FVec Ideal S16384x2048 .f32 := m ((c.tc : Thread nD τ).loc main_arg0)
@[inherit_doc stream] abbrev gain (c : Dev nD) : FVec Ideal S2048 .f32 := m ((c.tc : Thread nD τ).loc main_arg1)
@[inherit_doc stream] abbrev wup (c : Dev nD) : FVec Ideal S2048x8192 .bf16 := m ((c.tc : Thread nD τ).loc main_arg2)
@[inherit_doc stream] abbrev wdown (c : Dev nD) : FVec Ideal S8192x2048 .bf16 := m ((c.tc : Thread nD τ).loc main_arg3)
@[inherit_doc stream] abbrev last (c : Dev nD) : FVec Ideal S2048 .f32 := m ((c.tc : Thread nD τ).loc main_arg4)

/-- The stream's block: all of its 512 rows. -/
theorem stream_at (c : Dev nD) (t : Fin cfg0.N) (r : Fin 512) (k : Fin 2048) :
    iblk m c 0 t (ix2 r k) = stream m c (ix2 ⟨t.val / 8 * 512 + r.val, by have := point_lt t; omega⟩ k) := by
  blk_ext [iblk, V, idx t]

/-- The first weights' block: all of its 1024 columns. -/
theorem wup_at (c : Dev nD) (t : Fin cfg0.N) (k : Fin 2048) (l : Fin 1024) :
    iblk m c 2 t (ix2 k l) = wup m c (ix2 k ⟨1024 * (t.val % 8) + l.val, by omega⟩) := by
  rw [show (⟨1024 * (t.val % 8) + l.val, by omega⟩ : Fin 8192) = ⟨t.val % 8 * 1024 + l.val, by omega⟩ from Fin.ext (by simp only [Nat.mul_comm])]
  blk_ext [iblk, V, idx t]

/-- The second weights' block: all of its 1024 rows. -/
theorem wdown_at (c : Dev nD) (t : Fin cfg0.N) (l : Fin 1024) (j : Fin 2048) :
    iblk m c 3 t (ix2 l j) = wdown m c (ix2 ⟨1024 * (t.val % 8) + l.val, by omega⟩ j) := by
  rw [show (⟨1024 * (t.val % 8) + l.val, by omega⟩ : Fin 8192) = ⟨t.val % 8 * 1024 + l.val, by omega⟩ from Fin.ext (by simp only [Nat.mul_comm])]
  blk_ext [iblk, V, idx t]

/-- An index of a one-row shape. -/
theorem one_row (i : S1x2048.Idx) : ∃ k : Fin 2048, i = ix2 0 k := ⟨i 1, by rw [eq_ix2 i]; congr 1; exact Subsingleton.elim _ _⟩

/-- A gain reaches the launch as one row. -/
theorem gain_row (c : Dev nD) : (V m c main_v0 : FVec Ideal S1x2048 .f32) = fun i => gain m c (ix1 (i 1)) := by
  unfold_abbrev_sides
  after_results
  funext i
  obtain ⟨k, rfl⟩ := one_row i
  pointwise []
@[inherit_doc gain_row] theorem last_row (c : Dev nD) : (V m c main_v1 : FVec Ideal S1x2048 .f32) = fun i => last m c (ix1 (i 1)) := by
  unfold_abbrev_sides
  after_results
  funext i
  obtain ⟨k, rfl⟩ := one_row i
  pointwise []

/-- A gain's block is the gain. -/
theorem gain_at (c : Dev nD) (t : Fin cfg0.N) (k : Fin 2048) : iblk m c 1 t (ix2 0 k) = gain m c (ix1 k) := by
  have e : iblk m c 1 t (ix2 0 k) = (V m c main_v0 : FVec Ideal S1x2048 .f32) (ix2 0 k) := by blk_ext [iblk, idx t]
  exact e.trans (congrFun (gain_row m c) _)
@[inherit_doc gain_at] theorem last_at (c : Dev nD) (t : Fin cfg0.N) (k : Fin 2048) : iblk m c 4 t (ix2 0 k) = last m c (ix1 k) := by
  have e : iblk m c 4 t (ix2 0 k) = (V m c main_v1 : FVec Ideal S1x2048 .f32) (ix2 0 k) := by blk_ext [iblk, idx t]
  exact e.trans (congrFun (last_row m c) _)

/-- The rows a block's first point normalises. -/
theorem norm_at (x : Vec Ideal S512x2048 .f32) (g : Vec Ideal S1x2048 .f32) (r : Fin 512) (k : Fin 2048) :
    k0_pay1 x g (ix2 r k) = Dense.rms len (fun k => x (ix2 r k)) (fun k => g (ix2 0 k)) k := by
  unfold Dense.rms
  pointwise [k0_pay1]

/-- What a point adds onto the result's block, from the normalised rows and its blocks of the weights. -/
theorem body_at (h : Vec Ideal S512x2048 .bf16) (wu : Vec Ideal S2048x1024 .bf16) (o : Vec Ideal S512x2048 .f32) (wd : Vec Ideal S1024x2048 .bf16)
    (r : Fin 512) (j : Fin 2048) : k0_pay2 h wu o wd (ix2 r j)
      = o (ix2 r j) + ∑ l : Fin 1024, Dense.relu2 (fun k => h (ix2 r k)) (fun k => wu (ix2 k l)) * wd (ix2 l j) := by
  unfold Dense.relu2
  pointwise [k0_pay2]

/-- The closing normalisation. -/
theorem close_at (o : Vec Ideal S512x2048 .f32) (g : Vec Ideal S1x2048 .f32) (r : Fin 512) (k : Fin 2048) :
    k0_pay3 o g (ix2 r k) = Dense.rms len (fun k => o (ix2 r k)) (fun k => g (ix2 0 k)) k := by
  unfold Dense.rms
  pointwise [k0_pay3]

/-- The array's row that row `r` of block `q` is. -/
def row (q : ℕ) (hq : q < 32) (r : Fin 512) : Fin 16384 := ⟨q * 512 + r.val, by omega⟩

/-- The normalised row `i`. -/
def rows (c : Dev nD) (i : Fin 16384) : Fin 2048 → EReal := Dense.rms len (fun k => stream m c (ix2 i k)) (fun k => gain m c (ix1 k))

/-- The products summed at row `i`, column `j`. -/
def terms (c : Dev nD) (i : Fin 16384) (j : Fin 2048) (l : Fin 8192) : EReal :=
  Dense.relu2 (rows m c i) (fun k => wup m c (ix2 k l)) * wdown m c (ix2 l j)

/-- A point's block of rows is one of 32. -/
theorem block_lt (n : ℕ) (hn : n < cfg0.N) : n / 8 < 32 := by have := point_lt ⟨n, hn⟩; dsimp only at this; omega

/-- The rows a block's first point keeps. -/
theorem first_rows (c : Dev nD) (t : Fin cfg0.N) (r : Fin 512) (k : Fin 2048) :
    k0_pay1 (iblk m c 0 t) (iblk m c 1 t) (ix2 r k) = rows m c (row (t.val / 8) (block_lt _ t.isLt) r) k := by
  rw [norm_at]
  unfold rows
  congr 1
  · exact funext fun k => stream_at m c t r k
  · exact funext fun k => gain_at m c t k

/-- A point adds the next block's sum. -/
theorem step (c : Dev nD) (t : Fin cfg0.N) (h : Vec Ideal S512x2048 .bf16) (o : Vec Ideal S512x2048 .f32) (r : Fin 512) (j : Fin 2048)
    (hh : ∀ k, h (ix2 r k) = rows m c (row (t.val / 8) (block_lt _ t.isLt) r) k)
    (ho : o (ix2 r j) = stream m c (ix2 (row (t.val / 8) (block_lt _ t.isLt) r) j)
      + Dense.blocks 1024 (terms m c (row (t.val / 8) (block_lt _ t.isLt) r) j) (t.val % 8)) :
    k0_pay2 h (iblk m c 2 t) o (iblk m c 3 t) (ix2 r j) = stream m c (ix2 (row (t.val / 8) (block_lt _ t.isLt) r) j)
      + Dense.blocks 1024 (terms m c (row (t.val / 8) (block_lt _ t.isLt) r) j) (t.val % 8 + 1) := by
  rw [body_at, ho, Dense.blocks_succ _ _ _ (by omega), ← add_assoc]
  congr 1
  refine Finset.sum_congr rfl fun l _ => ?_
  unfold terms
  congr 1
  · congr 1
    · exact funext hh
    · exact funext fun k => wup_at m c t k l
  · exact wdown_at m c t l j

/-- What a block's first point leaves in the result's block. -/
theorem first_out (c : Dev nD) (t : Fin cfg0.N) (h : t.val % 8 = 0) (r : Fin 512) (j : Fin 2048) :
    k0_pay2 (k0_pay1 (iblk m c 0 t) (iblk m c 1 t)) (iblk m c 2 t) (iblk m c 0 t) (iblk m c 3 t) (ix2 r j)
      = stream m c (ix2 (row (t.val / 8) (block_lt _ t.isLt) r) j)
      + Dense.blocks 1024 (terms m c (row (t.val / 8) (block_lt _ t.isLt) r) j) (t.val % 8 + 1) := by
  refine step m c t _ _ r j (first_rows m c t r) ?_
  rw [h, Dense.blocks_zero, add_zero]
  exact stream_at m c t r j

/-- What every point leaves in the scratch, its block's normalised rows; and, before a block's last point, in the result's
    block: the stream with the first blocks' sums added. -/
theorem kept (c : Dev nD) : ∀ (n : ℕ) (hn : n < cfg0.N) (r : Fin 512),
    (∀ k, (outsAt0 m c n hn).2 (ix2 r k) = rows m c (row (n / 8) (block_lt n hn) r) k)
    ∧ (n % 8 ≠ 7 → ∀ j, (outsAt0 m c n hn).1 (ix2 r j) = stream m c (ix2 (row (n / 8) (block_lt n hn) r) j)
      + Dense.blocks 1024 (terms m c (row (n / 8) (block_lt n hn) r) j) (n % 8 + 1)) := by
  have hA : ∀ (t : Fin cfg0.N) (h : t.val % 8 = 0) (r : Fin 512),
      (∀ k, (outsAt0 m c t.val t.isLt).2 (ix2 r k) = rows m c (row (t.val / 8) (block_lt _ t.isLt) r) k)
      ∧ (t.val % 8 ≠ 7 → ∀ j, (outsAt0 m c t.val t.isLt).1 (ix2 r j) = stream m c (ix2 (row (t.val / 8) (block_lt _ t.isLt) r) j)
        + Dense.blocks 1024 (terms m c (row (t.val / 8) (block_lt _ t.isLt) r) j) (t.val % 8 + 1)) := by
    intro t h r
    rw [outsAt0_A m c t h (by omega)]
    refine ⟨fun k => ?_, fun _ j => ?_⟩
    · unfold sout0_A_0
      frame_out
      exact first_rows m c t r k
    · unfold out0_A_5
      frame_out
      exact first_out m c t h r j
  intro n
  induction n with
  | zero => exact fun hn r => hA ⟨0, hn⟩ rfl r
  | succ n ih =>
    intro hn r
    have hp := ih (Nat.lt_of_succ_lt hn) r
    by_cases h : (n + 1) % 8 = 0
    · exact hA ⟨n + 1, hn⟩ h r
    · have e : row (n / 8) (block_lt n (Nat.lt_of_succ_lt hn)) r = row ((n + 1) / 8) (block_lt (n + 1) hn) r := by
        unfold row; congr 2; omega
      have e' : n % 8 + 1 = (n + 1) % 8 := by omega
      rw [e, e'] at hp
      by_cases h7 : (n + 1) % 8 = 7
      · rw [outsAt0_C m c ⟨n + 1, hn⟩ h h7]
        exact ⟨hp.1, fun hne => absurd h7 hne⟩
      · rw [outsAt0_B m c ⟨n + 1, hn⟩ h h7]
        refine ⟨hp.1, fun _ j => ?_⟩
        unfold out0_B_5
        frame_out
        simp only [read_unread_whole, Memref.IsWhole.read_unread]
        exact step m c ⟨n + 1, hn⟩ _ _ r j hp.1 (hp.2 (by omega) j)

/-- What a block's last point leaves in the result's block. -/
theorem flushed (c : Dev nD) (t : Fin cfg0.N) (h7 : t.val % 8 = 7) (r : Fin 512) (j : Fin 2048) :
    (outsAt0 m c t.val t.isLt).1 (ix2 r j) = Dense.rms len (fun k => stream m c (ix2 (row (t.val / 8) (block_lt _ t.isLt) r) k)
      + ∑ l, terms m c (row (t.val / 8) (block_lt _ t.isLt) r) k l) (fun k => last m c (ix1 k)) j := by
  have hp := kept m c (t.val - 1) (Nat.lt_of_le_of_lt (Nat.sub_le _ _) t.isLt) r
  have e : row ((t.val - 1) / 8) (block_lt (t.val - 1) (Nat.lt_of_le_of_lt (Nat.sub_le _ _) t.isLt)) r
      = row (t.val / 8) (block_lt _ t.isLt) r := by unfold row; congr 2; omega
  have e' : (t.val - 1) % 8 + 1 = t.val % 8 := by omega
  rw [e, e'] at hp
  rw [outsAt0_C m c t (by omega) h7]
  unfold out0_C_5
  frame_out
  simp only [read_unread_whole, Memref.IsWhole.read_unread]
  refine (close_at _ _ r j).trans ?_
  congr 1
  · funext k
    refine (step m c t _ _ r k hp.1 (hp.2 (by omega) k)).trans ?_
    rw [h7]
    exact congrArg _ (Dense.blocks_all 1024 (terms m c (row (t.val / 8) (block_lt _ t.isLt) r) k) 8 (by norm_num))
  · exact funext fun k => last_at m c t k

/-- The result array after the launch is the reference's. -/
theorem result (c : Dev nD) : (dats m 0 c).arrAt 5 cfg0.N
    = Reference2Ideal.Value.mlp (stream m c) (gain m c) (wup m c) (wdown m c) (last m c) := by
  refine (dats m 0 c).arrAt_eq_of_covers 5 _ (by decide +kernel) fun t hf y => ?_
  blk_simp
  rw [after0_5]
  have ht := point_lt t
  have h7 : t.val % 8 = 7 := (by decide +kernel : ∀ t : Fin cfg0.N, (cfg0.win 5).flush t = true → t.val % 8 = 7) t hf
  obtain ⟨r, j, rfl⟩ : ∃ (r : Fin 512) (j : Fin 2048), y = ix2 r j := ⟨y 0, y 1, eq_ix2 y⟩
  refine (flushed m c t h7 r j).trans (Eq.trans ?_ (b := Reference2Ideal.Value.mlp (stream m c) (gain m c) (wup m c) (wdown m c) (last m c)
    (ix2 ⟨t.val / 8 * 512 + r.val, by omega⟩ j)) (by blk_ext [idx t]))
  unfold Reference2Ideal.Value.mlp
  rw [Reference2Ideal.Value.normed_at]
  congr 1
  funext k
  rw [Reference2Ideal.Value.summed_at]
  congr 1
  refine Finset.sum_congr rfl fun l _ => ?_
  rw [Reference2Ideal.Value.wide_at, show (fun k => Reference2Ideal.Value.normed (stream m c) (gain m c)
    (ix2 ⟨t.val / 8 * 512 + r.val, by omega⟩ k)) = rows m c (row (t.val / 8) (block_lt _ t.isLt) r) from
    funext fun k => Reference2Ideal.Value.normed_at _ _ _ k]
  rfl

end Cert.Kernel2Ideal.Value

end
-- ==== Proof.UpKernel.lean ====
/- The feed-forward part's first product: the result array is the squared positive part of the normalised residual stream
   times the weights, block by block; the normalised rows are computed at a block of rows' first point and kept. -/
module

public import proofs.«01_k».proof.Proof.Gen.Kernel3Ideal.Value
public import proofs.«01_k».proof.Proof.Gen.Reference3Ideal.Run
public import proofs.«01_k».proof.Proof.Dense
public import Idealize.ShloMosaic.Lib.Pipeline.ReadBack

@[expose] public section

set_option maxRecDepth 16384

noncomputable section

namespace Cert.Reference3Ideal.Value

open Cert.Reference3Ideal Cert.Reference3Ideal.Gen Idealize.ShloMosaic Idealize.ShloMosaic.TcCoe Idealize.SL.Sem

/-- The reference's normalisation of the residual stream. -/
def normed (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32)
      reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- Its entries: the row over its root mean square. -/
theorem normed_at (x : FVec Ideal S16384x2048 .f32) (g : FVec Ideal S2048 .f32) (i : Fin 16384) (k : Fin 2048) :
    normed x g (ix2 i k) = Dense.rms (Ideal.ofBits .f32 0x45000000#32) (fun k => x (ix2 i k)) (fun k => g (ix1 k)) k := by
  unfold Dense.rms
  pointwise [normed]

/-- The reference's result, from the normalised stream and the weights. -/
def up (h : FVec Ideal S16384x2048 .f32) (w : FVec Ideal S2048x8192 .bf16) : FVec Ideal S16384x8192 .bf16 :=
  have u := maximumf (Host.dotGeneral dot_S16384x2048_S2048x8192_S16384x8192_1_0_0_1_n_n none h (extf .f32 w bitsLt_bf16_f32))
    (broadcastInDim S16384x8192 ![] bcast_S_S16384x8192 (constant S_ .f32 0x00000000#32))
  truncf .bf16 (mulf u u) bitsLt_bf16_f32

/-- Its entries: squared positive parts of a row's product with a column. -/
theorem up_at (x : FVec Ideal S16384x2048 .f32) (g : FVec Ideal S2048 .f32) (w : FVec Ideal S2048x8192 .bf16) (i : Fin 16384) (j : Fin 8192) :
    up (normed x g) w (ix2 i j) = Dense.relu2 (Dense.rms (Ideal.ofBits .f32 0x45000000#32) (fun k => x (ix2 i k)) (fun k => g (ix1 k)))
      (fun k => w (ix2 k j)) := by
  have e : Dense.rms (Ideal.ofBits .f32 0x45000000#32) (fun k => x (ix2 i k)) (fun k => g (ix1 k)) = fun k => normed x g (ix2 i k) :=
    funext fun k => (normed_at x g i k).symm
  rw [e]
  unfold Dense.relu2
  pointwise [up]

/-- It is a function of the arguments. -/
theorem up_congr {x x' : FVec Ideal S16384x2048 .f32} {g g' : FVec Ideal S2048 .f32} {w w' : FVec Ideal S2048x8192 .bf16}
    (hx : x' = x) (hg : g' = g) (hw : w' = w) : up (normed x' g') w' = up (normed x g) w := by rw [hx, hg, hw]

end Cert.Reference3Ideal.Value

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

/-- Where each window's block lies at a grid point: rows `t / 8`, columns `t % 8`. -/
theorem idx : ∀ t : Fin cfg0.N, win0_0.index t = ![t.val / 8, 0] ∧ win0_1.index t = ![0, 0]
    ∧ win0_2.index t = ![0, t.val % 8] ∧ win0_3.index t = ![t.val / 8, t.val % 8] := by decide +kernel

/-- A point's number is below 128. -/
theorem point_lt (t : Fin cfg0.N) : t.val < 128 := t.isLt

/-- The residual stream, the gain and the weights as the launch finds them. -/
abbrev stream (c : Dev nD) : FVec Ideal S16384x2048 .f32 := m ((c.tc : Thread nD τ).loc main_arg0)
@[inherit_doc stream] abbrev gain (c : Dev nD) : FVec Ideal S2048 .f32 := m ((c.tc : Thread nD τ).loc main_arg1)
@[inherit_doc stream] abbrev weights (c : Dev nD) : FVec Ideal S2048x8192 .bf16 := m ((c.tc : Thread nD τ).loc main_arg2)

/-- The stream's block: all of its 1024 rows. -/
theorem stream_at (c : Dev nD) (t : Fin cfg0.N) (r : Fin 1024) (k : Fin 2048) :
    iblk m c 0 t (ix2 r k) = stream m c (ix2 ⟨t.val / 8 * 1024 + r.val, by have := point_lt t; omega⟩ k) := by
  blk_ext [iblk, V, idx t]

/-- The gain reaches the launch as one row. -/
theorem gain_row (c : Dev nD) : (V m c main_v0 : FVec Ideal S1x2048 .f32) = fun i => gain m c (ix1 (i 1)) := by
  unfold_abbrev_sides
  after_results
  funext i
  obtain ⟨k, rfl⟩ : ∃ k : Fin 2048, i = ix2 0 k := ⟨i 1, by rw [eq_ix2 i]; congr 1; exact Subsingleton.elim _ _⟩
  pointwise []

/-- The gain's block is the gain. -/
theorem gain_at (c : Dev nD) (t : Fin cfg0.N) (k : Fin 2048) : iblk m c 1 t (ix2 0 k) = gain m c (ix1 k) := by
  have e : iblk m c 1 t (ix2 0 k) = (V m c main_v0 : FVec Ideal S1x2048 .f32) (ix2 0 k) := by blk_ext [iblk, idx t]
  exact e.trans (congrFun (gain_row m c) _)

/-- The weights' block: all of its 1024 columns. -/
theorem weights_at (c : Dev nD) (t : Fin cfg0.N) (k : Fin 2048) (l : Fin 1024) :
    iblk m c 2 t (ix2 k l) = weights m c (ix2 k ⟨t.val % 8 * 1024 + l.val, by omega⟩) := by
  blk_ext [iblk, V, idx t]

/-- The rows a block's first point normalises. -/
theorem norm_at (x : Vec Ideal S1024x2048 .f32) (g : Vec Ideal S1x2048 .f32) (r : Fin 1024) (k : Fin 2048) :
    k0_pay1 x g (ix2 r k) = Dense.rms (Ideal.ofBits .f32 0x45000000#32) (fun k => x (ix2 r k)) (fun k => g (ix2 0 k)) k := by
  unfold Dense.rms
  pointwise [k0_pay1]

/-- What a point computes from the normalised rows and its block of the weights. -/
theorem body_at (h : Vec Ideal S1024x2048 .bf16) (w : Vec Ideal S2048x1024 .bf16) (r l : Fin 1024) :
    k0_pay2 h w (ix2 r l) = Dense.relu2 (fun k => h (ix2 r k)) (fun k => w (ix2 k l)) := by
  unfold Dense.relu2
  pointwise [k0_pay2]

/-- The normalised rows of the block that row `r` of point `n`'s block lies in. -/
def rows (c : Dev nD) (n : ℕ) (hn : n < cfg0.N) (r : Fin 1024) : Fin 2048 → EReal :=
  Dense.rms (Ideal.ofBits .f32 0x45000000#32)
    (fun k => stream m c (ix2 ⟨n / 8 * 1024 + r.val, by have := point_lt ⟨n, hn⟩; dsimp only at this; omega⟩ k)) (fun k => gain m c (ix1 k))

/-- The rows a block's first point keeps. -/
theorem first_rows (c : Dev nD) (t : Fin cfg0.N) (r : Fin 1024) (k : Fin 2048) :
    k0_pay1 (iblk m c 0 t) (iblk m c 1 t) (ix2 r k) = rows m c t.val t.isLt r k := by
  rw [norm_at]
  unfold rows
  congr 1
  · exact funext fun k => stream_at m c t r k
  · exact funext fun k => gain_at m c t k

/-- What every point finds or leaves in the scratch: its block's normalised rows. -/
theorem scratch (c : Dev nD) : ∀ (n : ℕ) (hn : n < cfg0.N) (r : Fin 1024) (k : Fin 2048),
    (outsAt0 m c n hn).2 (ix2 r k) = rows m c n hn r k
  | 0, hn, r, k => by
    rw [outsAt0_A m c ⟨0, hn⟩ rfl]
    unfold sout0_A_0
    frame_out
    exact first_rows m c ⟨0, hn⟩ r k
  | n + 1, hn, r, k => by
    by_cases h : (n + 1) % 8 = 0
    · rw [outsAt0_A m c ⟨n + 1, hn⟩ h]
      unfold sout0_A_0
      frame_out
      exact first_rows m c ⟨n + 1, hn⟩ r k
    · rw [outsAt0_B m c ⟨n + 1, hn⟩ h]
      unfold sout0_B_0
      refine (scratch c n (Nat.lt_of_succ_lt hn) r k).trans ?_
      unfold rows
      have e : n / 8 = (n + 1) / 8 := by omega
      simp only [e]

/-- The result array after the launch is the reference's. -/
theorem result (c : Dev nD) :
    (dats m 0 c).arrAt 3 cfg0.N = Reference3Ideal.Value.up (Reference3Ideal.Value.normed (stream m c) (gain m c)) (weights m c) := by
  refine (dats m 0 c).arrAt_eq_of_covers 3 _ (by decide +kernel) fun t hf y => ?_
  blk_simp
  rw [after0_3]
  have ht := point_lt t
  obtain ⟨r, l, rfl⟩ : ∃ r l : Fin 1024, y = ix2 r l := ⟨y 0, y 1, eq_ix2 y⟩
  refine Eq.trans ?_ (b := Reference3Ideal.Value.up (Reference3Ideal.Value.normed (stream m c) (gain m c)) (weights m c)
    (ix2 ⟨t.val / 8 * 1024 + r.val, by omega⟩ ⟨t.val % 8 * 1024 + l.val, by omega⟩)) (by blk_ext [idx t])
  have key : ∀ h : Vec Ideal S1024x2048 .bf16, (∀ k, h (ix2 r k) = rows m c t.val t.isLt r k) →
      k0_pay2 h (iblk m c 2 t) (ix2 r l) = Reference3Ideal.Value.up (Reference3Ideal.Value.normed (stream m c) (gain m c)) (weights m c)
        (ix2 ⟨t.val / 8 * 1024 + r.val, by omega⟩ ⟨t.val % 8 * 1024 + l.val, by omega⟩) := by
    intro h hh
    rw [body_at, Reference3Ideal.Value.up_at]
    congr 1
    · exact funext hh
    · exact funext fun k => weights_at m c t k l
  by_cases h : t.val % 8 = 0
  · rw [outsAt0_A m c t h]
    unfold out0_A_3
    frame_out
    exact key _ fun k => first_rows m c t r k
  · rw [outsAt0_B m c t h]
    unfold out0_B_3
    frame_out
    rw [read_unread_whole]
    refine key _ fun k => (scratch m c (t.val - 1) _ r k).trans ?_
    unfold rows
    have e : (t.val - 1) / 8 = t.val / 8 := by omega
    simp only [e]

end Cert.Kernel3Ideal.Value

end
-- ==== Proof.DownKernel.lean ====
/- The feed-forward part's second product: the result array is the residual stream plus the activations times the
   weights, block by block. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Reference4Ideal.Value

open Cert.Reference4Ideal Cert.Reference4Ideal.Gen Idealize.ShloMosaic Idealize.ShloMosaic.TcCoe Idealize.SL.Sem

/-- The reference's result, from the activations, the weights and the residual stream. -/
def down (a : FVec Ideal S16384x8192 .bf16) (w : FVec Ideal S8192x2048 .bf16) (x : FVec Ideal S16384x2048 .f32) : FVec Ideal S16384x2048 .f32 :=
  addf x (Host.dotGeneral dot_S16384x8192_S8192x2048_S16384x2048_1_0_0_1_n_n none (extf .f32 a bitsLt_bf16_f32) (extf .f32 w bitsLt_bf16_f32))

/-- Its entries: the residual stream's, plus the sum over the 8192 activations of the row. -/
theorem down_at (a : FVec Ideal S16384x8192 .bf16) (w : FVec Ideal S8192x2048 .bf16) (x : FVec Ideal S16384x2048 .f32) (i : Fin 16384) (j : Fin 2048) :
    down a w x (ix2 i j) = x (ix2 i j) + ∑ k : Fin 8192, a (ix2 i k) * w (ix2 k j) := by
  pointwise [down]

/-- It is a function of the arguments. -/
theorem down_congr {a a' : FVec Ideal S16384x8192 .bf16} {w w' : FVec Ideal S8192x2048 .bf16} {x x' : FVec Ideal S16384x2048 .f32}
    (ha : a' = a) (hw : w' = w) (hx : x' = x) : down a' w' x' = down a w x := by rw [ha, hw, hx]

end Cert.Reference4Ideal.Value

namespace Cert.Kernel4Ideal.Value

open Cert.Kernel4Ideal Cert.Kernel4Ideal.Gen Idealize.ShloMosaic Idealize.ShloMosaic.TcCoe Idealize.SL.Sem

variable (m : (ℓ : Loc nD τ sig) → Buf (Elt Ideal) ℓ)

/-- Where each window's block lies at a grid point: rows `t / 4`, columns `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] := by decide +kernel

/-- The activations, the weights and the residual stream as the launch finds them. -/
abbrev act (c : Dev nD) : FVec Ideal S16384x8192 .bf16 := m ((c.tc : Thread nD τ).loc main_arg0)
@[inherit_doc act] abbrev weights (c : Dev nD) : FVec Ideal S8192x2048 .bf16 := m ((c.tc : Thread nD τ).loc main_arg1)
@[inherit_doc act] abbrev stream (c : Dev nD) : FVec Ideal S16384x2048 .f32 := m ((c.tc : Thread nD τ).loc main_arg2)

/-- A point's number is below 128. -/
theorem point_lt (t : Fin cfg0.N) : t.val < 128 := t.isLt

/-- The activations' block: all of its 512 rows. -/
theorem act_at (c : Dev nD) (t : Fin cfg0.N) (r : Fin 512) (k : Fin 8192) :
    iblk m c 0 t (ix2 r k) = act m c (ix2 ⟨t.val / 4 * 512 + r.val, by have := point_lt t; omega⟩ k) := by
  blk_ext [iblk, V, idx t]

/-- The weights' block: all of its 512 columns. -/
theorem weights_at (c : Dev nD) (t : Fin cfg0.N) (k : Fin 8192) (l : Fin 512) :
    iblk m c 1 t (ix2 k l) = weights m c (ix2 k ⟨t.val % 4 * 512 + l.val, by omega⟩) := by
  blk_ext [iblk, V, idx t]

/-- The residual stream's block. -/
theorem stream_at (c : Dev nD) (t : Fin cfg0.N) (r l : Fin 512) :
    iblk m c 2 t (ix2 r l) = stream m c (ix2 ⟨t.val / 4 * 512 + r.val, by have := point_lt t; omega⟩ ⟨t.val % 4 * 512 + l.val, by omega⟩) := by
  blk_ext [iblk, V, idx t]

/-- What a grid point computes, from its three blocks. -/
theorem body_at (x : Vec Ideal S512x512 .f32) (a : Vec Ideal S512x8192 .bf16) (w : Vec Ideal S8192x512 .bf16) (r l : Fin 512) :
    k0_pay1 x a w (ix2 r l) = x (ix2 r l) + ∑ k : Fin 8192, a (ix2 r k) * w (ix2 k l) := by
  pointwise [k0_pay1]

/-- The result array after the launch is the reference's. -/
theorem result (c : Dev nD) :
    (dats m 0 c).arrAt 3 cfg0.N = Reference4Ideal.Value.down (act m c) (weights m c) (stream m c) := by
  refine (dats m 0 c).arrAt_eq_of_covers 3 _ (by decide +kernel) fun t hf y => ?_
  blk_simp
  rw [after0_3]
  unfold out0_3
  frame_out
  have ht := point_lt t
  obtain ⟨r, l, rfl⟩ : ∃ r l : Fin 512, y = ix2 r l := ⟨y 0, y 1, eq_ix2 y⟩
  refine (body_at _ _ _ r l).trans (Eq.trans ?_ (b := Reference4Ideal.Value.down (act m c) (weights m c) (stream m c)
    (ix2 ⟨t.val / 4 * 512 + r.val, by omega⟩ ⟨t.val % 4 * 512 + l.val, by omega⟩)) (by blk_ext [idx t]))
  rw [Reference4Ideal.Value.down_at, stream_at]
  congr 1
  exact Finset.sum_congr rfl fun k _ => by rw [act_at, weights_at]

end Cert.Kernel4Ideal.Value

end
-- ==== Proof.OutKernel.lean ====
/- The output projection with its residual: a block of rows of the three mixers' results is normalised, mixer by mixer, into one
   row of 2048 entries kept in the scratch, and four column blocks of its product with the output weights are added onto the
   residual stream. Beside it the launch casts the next layer's input weights, 64 rows a grid point. Both result arrays are the
   reference's. -/
module

public import proofs.«01_k».proof.Proof.Gen.Kernel5Ideal.Value
public import proofs.«01_k».proof.Proof.Gen.Reference5Ideal.Run
public import proofs.«01_k».proof.Proof.Dense
public import Idealize.ShloMosaic.Lib.Pipeline.ReadBack

@[expose] public section

set_option maxRecDepth 16384

noncomputable section

namespace Cert.Reference5Ideal.Value

open Cert.Reference5Ideal Cert.Reference5Ideal.Gen Idealize.ShloMosaic Idealize.ShloMosaic.TcCoe Idealize.SL.Sem

/-- The lengths of a mixer's row, as the programs write them: 512 for the first two mixers, 1024 for the third. -/
abbrev len : EReal := Ideal.ofBits .f32 0x44000000#32
@[inherit_doc len] abbrev len' : EReal := Ideal.ofBits .f32 0x44800000#32

/-- The reference's normalisation of the rows of one of the first two mixers. -/
def normed (x : FVec Ideal S16384x512 .bf16) (g : FVec Ideal S512 .f32) : FVec Ideal S16384x512 .f32 :=
  mulf (mulf (extf .f32 x bitsLt_bf16_f32) (broadcastInDim S16384x512 ![0, 1] bcast_S16384x1_S16384x512_0_1 (Host.rsqrt (addf (Host.divf
    (broadcastInDim S16384x1 ![0] bcast_S16384_S16384x1_0 (Host.reduceAdd (mulf (extf .f32 x bitsLt_bf16_f32) (extf .f32 x bitsLt_bf16_f32))
      (constant S_ .f32 0x00000000#32) reducesTo_S16384x512_S16384_d1 h_S_)) (broadcastInDim S16384x1 ![] bcast_S_S16384x1 (constant S_ .f32 0x44000000#32)))
    (broadcastInDim S16384x1 ![] bcast_S_S16384x1 (constant S_ .f32 0x358637BD#32))))))
    (broadcastInDim S16384x512 ![0, 1] bcast_S1x512_S16384x512_0_1 (broadcastInDim S1x512 ![1] bcast_S512_S1x512_1 g))

/-- Its entries. -/
theorem normed_at (x : FVec Ideal S16384x512 .bf16) (g : FVec Ideal S512 .f32) (i : Fin 16384) (k : Fin 512) :
    normed x g (ix2 i k) = Dense.rms len (fun k => x (ix2 i k)) (fun k => g (ix1 k)) k := by
  unfold Dense.rms
  pointwise [normed]

/-- The reference's normalisation of the rows of the third mixer. -/
def normed' (x : FVec Ideal S16384x1024 .bf16) (g : FVec Ideal S1024 .f32) : FVec Ideal S16384x1024 .f32 :=
  mulf (mulf (extf .f32 x bitsLt_bf16_f32) (broadcastInDim S16384x1024 ![0, 1] bcast_S16384x1_S16384x1024_0_1 (Host.rsqrt (addf (Host.divf
    (broadcastInDim S16384x1 ![0] bcast_S16384_S16384x1_0 (Host.reduceAdd (mulf (extf .f32 x bitsLt_bf16_f32) (extf .f32 x bitsLt_bf16_f32))
      (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Its entries. -/
theorem normed'_at (x : FVec Ideal S16384x1024 .bf16) (g : FVec Ideal S1024 .f32) (i : Fin 16384) (k : Fin 1024) :
    normed' x g (ix2 i k) = Dense.rms len' (fun k => x (ix2 i k)) (fun k => g (ix1 k)) k := by
  unfold Dense.rms
  pointwise [normed']

/-- Three mixers' rows side by side: entry `k` of the joined row. -/
def joined (a b : Fin 512 → EReal) (d : Fin 1024 → EReal) (k : Fin 2048) : EReal :=
  if h : k.val < 512 then a ⟨k.val, h⟩ else if h' : k.val - 512 < 512 then b ⟨k.val - 512, h'⟩
    else d ⟨k.val - 512 - 512, by omega⟩

/-- The reference's concatenation of the three. -/
def mixed (a b : FVec Ideal S16384x512 .f32) (d : FVec Ideal S16384x1024 .f32) : FVec Ideal S16384x2048 .f32 :=
  concatenate S16384x2048 1 [⟨S16384x512, a⟩, ⟨S16384x512, b⟩, ⟨S16384x1024, d⟩]
    concatenates_S16384x512_S16384x512_S16384x1024_S16384x2048_d1

/-- Its rows are the joined rows. -/
theorem mixed_at (a b : FVec Ideal S16384x512 .f32) (d : FVec Ideal S16384x1024 .f32) (i : Fin 16384) (k : Fin 2048) :
    mixed a b d (ix2 i k) = joined (fun k => a (ix2 i k)) (fun k => b (ix2 i k)) (fun k => d (ix2 i k)) k := by
  unfold joined
  pointwise [mixed]

/-- The stream with the mix's product with the output weights added. -/
def out (h : FVec Ideal S16384x2048 .f32) (w : FVec Ideal S2048x2048 .bf16) (x : FVec Ideal S16384x2048 .f32) : FVec Ideal S16384x2048 .f32 :=
  addf x (Host.dotGeneral dot_S16384x2048_S2048x2048_S16384x2048_1_0_0_1_n_n none h (extf .f32 w bitsLt_bf16_f32))

/-- Its entries. -/
theorem out_at (h : FVec Ideal S16384x2048 .f32) (w : FVec Ideal S2048x2048 .bf16) (x : FVec Ideal S16384x2048 .f32) (i : Fin 16384) (j : Fin 2048) :
    out h w x (ix2 i j) = x (ix2 i j) + ∑ k : Fin 2048, h (ix2 i k) * w (ix2 k j) := by
  pointwise [out]

/-- The first result from the arguments. -/
def proj (ya yb : FVec Ideal S16384x512 .bf16) (yc : FVec Ideal S16384x1024 .bf16) (ga gb : FVec Ideal S512 .f32) (gc : FVec Ideal S1024 .f32)
    (w : FVec Ideal S2048x2048 .bf16) (x : FVec Ideal S16384x2048 .f32) : FVec Ideal S16384x2048 .f32 :=
  out (mixed (normed ya ga) (normed yb gb) (normed' yc gc)) w x

/-- It is a function of the arguments. -/
theorem proj_congr {ya ya' yb yb' : FVec Ideal S16384x512 .bf16} {yc yc' : FVec Ideal S16384x1024 .bf16} {ga ga' gb gb' : FVec Ideal S512 .f32}
    {gc gc' : FVec Ideal S1024 .f32} {w w' : FVec Ideal S2048x2048 .bf16} {x x' : FVec Ideal S16384x2048 .f32}
    (h0 : ya' = ya) (h1 : yb' = yb) (h2 : yc' = yc) (h3 : ga' = ga) (h4 : gb' = gb) (h5 : gc' = gc) (h6 : w' = w) (h7 : x' = x) :
    proj ya' yb' yc' ga' gb' gc' w' x' = proj ya yb yc ga gb gc w x := by rw [h0, h1, h2, h3, h4, h5, h6, h7]

/-- The second result: the last layer's input weights, cast. -/
def cast (w : FVec Ideal S2x2048x4352 .f32) : FVec Ideal S2048x4352 .bf16 :=
  truncf .bf16 (shapeCast _ (extractStridedSlice S1x2048x4352 ![1, 0, 0] w slices_S2x2048x4352_S1x2048x4352_1_0_0)
    shapeCasts_S1x2048x4352_S2048x4352) bitsLt_bf16_f32

/-- Its entries. -/
theorem cast_at (w : FVec Ideal S2x2048x4352 .f32) (i : Fin 2048) (j : Fin 4352) : cast w (ix2 i j) = w (ix3 1 i j) := by
  pointwise [cast]

/-- It is a function of the argument. -/
theorem cast_congr {w w' : FVec Ideal S2x2048x4352 .f32} (h : w' = w) : cast w' = cast w := by rw [h]

end Cert.Reference5Ideal.Value

namespace Cert.Kernel5Ideal.Value

open Cert.Kernel5Ideal Cert.Kernel5Ideal.Gen Idealize.ShloMosaic Idealize.ShloMosaic.TcCoe Idealize.SL.Sem
open Cert.Reference5Ideal.Value (len len' joined)

variable (m : (ℓ : Loc nD τ sig) → Buf (Elt Ideal) ℓ)

/-- Where each window's block lies at a grid point: rows block `t` of every array that is cut, the other arrays whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![1, t.val, 0] ∧ win0_9.index t = ![t.val, 0] ∧ win0_10.index t = ![t.val, 0] := by
  decide +kernel

/-- A point's number is below 32. -/
theorem point_lt (t : Fin cfg0.N) : t.val < 32 := t.isLt

/-- The mixers' results, their gains, the weights, the stream and the next layer's weights as the launch finds them. -/
abbrev ya (c : Dev nD) : FVec Ideal S16384x512 .bf16 := m ((c.tc : Thread nD τ).loc main_arg0)
@[inherit_doc ya] abbrev yb (c : Dev nD) : FVec Ideal S16384x512 .bf16 := m ((c.tc : Thread nD τ).loc main_arg1)
@[inherit_doc ya] abbrev yc (c : Dev nD) : FVec Ideal S16384x1024 .bf16 := m ((c.tc : Thread nD τ).loc main_arg2)
@[inherit_doc ya] abbrev ga (c : Dev nD) : FVec Ideal S512 .f32 := m ((c.tc : Thread nD τ).loc main_arg3)
@[inherit_doc ya] abbrev gb (c : Dev nD) : FVec Ideal S512 .f32 := m ((c.tc : Thread nD τ).loc main_arg4)
@[inherit_doc ya] abbrev gc (c : Dev nD) : FVec Ideal S1024 .f32 := m ((c.tc : Thread nD τ).loc main_arg5)
@[inherit_doc ya] abbrev wout (c : Dev nD) : FVec Ideal S2048x2048 .bf16 := m ((c.tc : Thread nD τ).loc main_arg6)
@[inherit_doc ya] abbrev stream (c : Dev nD) : FVec Ideal S16384x2048 .f32 := m ((c.tc : Thread nD τ).loc main_arg7)
@[inherit_doc ya] abbrev win (c : Dev nD) : FVec Ideal S2x2048x4352 .f32 := m ((c.tc : Thread nD τ).loc main_arg8)

/-- The array's row that row `r` of a point's block is. -/
def row (t : Fin cfg0.N) (r : Fin 512) : Fin 16384 := ⟨t.val * 512 + r.val, by have := point_lt t; omega⟩

/-- The blocks a point reads are blocks of the arrays. -/
theorem ya_at (c : Dev nD) (t : Fin cfg0.N) (r : Fin 512) (k : Fin 512) : iblk m c 0 t (ix2 r k) = ya m c (ix2 (row t r) k) := by
  unfold row; blk_ext [iblk, V, idx t]
@[inherit_doc ya_at] theorem yb_at (c : Dev nD) (t : Fin cfg0.N) (r : Fin 512) (k : Fin 512) : iblk m c 1 t (ix2 r k) = yb m c (ix2 (row t r) k) := by
  unfold row; blk_ext [iblk, V, idx t]
@[inherit_doc ya_at] theorem yc_at (c : Dev nD) (t : Fin cfg0.N) (r : Fin 512) (k : Fin 1024) : iblk m c 2 t (ix2 r k) = yc m c (ix2 (row t r) k) := by
  unfold row; blk_ext [iblk, V, idx t]
@[inherit_doc ya_at] theorem wout_at (c : Dev nD) (t : Fin cfg0.N) (k j : Fin 2048) : iblk m c 6 t (ix2 k j) = wout m c (ix2 k j) := by
  blk_ext [iblk, V, idx t]
@[inherit_doc ya_at] theorem stream_at (c : Dev nD) (t : Fin cfg0.N) (r : Fin 512) (j : Fin 2048) : iblk m c 7 t (ix2 r j) = stream m c (ix2 (row t r) j) := by
  unfold row; blk_ext [iblk, V, idx t]
@[inherit_doc ya_at] theorem win_at (c : Dev nD) (t : Fin cfg0.N) (r : Fin 64) (j : Fin 4352) :
    iblk m c 8 t (ix3 0 r j) = win m c (ix3 1 ⟨t.val * 64 + r.val, by have := point_lt t; omega⟩ j) := by
  blk_ext [iblk, V, idx t]

/-- A gain reaches the launch as one row. -/
theorem ga_row (c : Dev nD) : (V m c main_v0 : FVec Ideal S1x512 .f32) = fun i => ga m c (ix1 (i 1)) := by
  unfold_abbrev_sides
  after_results
  funext i
  obtain ⟨k, rfl⟩ : ∃ k : Fin 512, i = ix2 0 k := ⟨i 1, by rw [eq_ix2 i]; congr 1; exact Subsingleton.elim _ _⟩
  pointwise []
@[inherit_doc ga_row] theorem gb_row (c : Dev nD) : (V m c main_v1 : FVec Ideal S1x512 .f32) = fun i => gb m c (ix1 (i 1)) := by
  unfold_abbrev_sides
  after_results
  funext i
  obtain ⟨k, rfl⟩ : ∃ k : Fin 512, i = ix2 0 k := ⟨i 1, by rw [eq_ix2 i]; congr 1; exact Subsingleton.elim _ _⟩
  pointwise []
@[inherit_doc ga_row] theorem gc_row (c : Dev nD) : (V m c main_v2 : FVec Ideal S1x1024 .f32) = fun i => gc m c (ix1 (i 1)) := by
  unfold_abbrev_sides
  after_results
  funext i
  obtain ⟨k, rfl⟩ : ∃ k : Fin 1024, i = ix2 0 k := ⟨i 1, by rw [eq_ix2 i]; congr 1; exact Subsingleton.elim _ _⟩
  pointwise []

/-- A gain's block is the gain. -/
theorem ga_at (c : Dev nD) (t : Fin cfg0.N) (k : Fin 512) : iblk m c 3 t (ix2 0 k) = ga m c (ix1 k) := by
  have e : iblk m c 3 t (ix2 0 k) = (V m c main_v0 : FVec Ideal S1x512 .f32) (ix2 0 k) := by blk_ext [iblk, idx t]
  exact e.trans (congrFun (ga_row m c) _)
@[inherit_doc ga_at] theorem gb_at (c : Dev nD) (t : Fin cfg0.N) (k : Fin 512) : iblk m c 4 t (ix2 0 k) = gb m c (ix1 k) := by
  have e : iblk m c 4 t (ix2 0 k) = (V m c main_v1 : FVec Ideal S1x512 .f32) (ix2 0 k) := by blk_ext [iblk, idx t]
  exact e.trans (congrFun (gb_row m c) _)
@[inherit_doc ga_at] theorem gc_at (c : Dev nD) (t : Fin cfg0.N) (k : Fin 1024) : iblk m c 5 t (ix2 0 k) = gc m c (ix1 k) := by
  have e : iblk m c 5 t (ix2 0 k) = (V m c main_v2 : FVec Ideal S1x1024 .f32) (ix2 0 k) := by blk_ext [iblk, idx t]
  exact e.trans (congrFun (gc_row m c) _)

/-- A block's normalised rows, of each mixer. -/
theorem norm_a_at (x : Vec Ideal S512x512 .bf16) (g : Vec Ideal S1x512 .f32) (r : Fin 512) (k : Fin 512) :
    k0_pay5 x g (ix2 r k) = Dense.rms len (fun k => x (ix2 r k)) (fun k => g (ix2 0 k)) k := by
  unfold Dense.rms
  pointwise [k0_pay5]
@[inherit_doc norm_a_at] theorem norm_b_at (x : Vec Ideal S512x512 .bf16) (g : Vec Ideal S1x512 .f32) (r : Fin 512) (k : Fin 512) :
    k0_pay7 (k0_pay6 x) g (ix2 r k) = Dense.rms len (fun k => x (ix2 r k)) (fun k => g (ix2 0 k)) k := by
  unfold Dense.rms
  pointwise [k0_pay7, k0_pay6]
@[inherit_doc norm_a_at] theorem norm_c_at (x : Vec Ideal S512x1024 .bf16) (g : Vec Ideal S1x1024 .f32) (r : Fin 512) (k : Fin 1024) :
    k0_pay8 x g (ix2 r k) = Dense.rms len' (fun k => x (ix2 r k)) (fun k => g (ix2 0 k)) k := by
  unfold Dense.rms
  pointwise [k0_pay8]

/-- A column block of the result: the stream's entry and a row times a column. -/
theorem body_at (x : Vec Ideal S512x512 .f32) (h : Vec Ideal S512x2048 .bf16) (w : Vec Ideal S2048x512 .bf16) (r l : Fin 512) :
    k0_pay9 x h w (ix2 r l) = x (ix2 r l) + ∑ k : Fin 2048, h (ix2 r k) * w (ix2 k l) := by
  pointwise [k0_pay9]

/-- The mix's row `r` of a point's block. -/
def mix (c : Dev nD) (t : Fin cfg0.N) (r : Fin 512) : Fin 2048 → EReal :=
  joined (Dense.rms len (fun k => ya m c (ix2 (row t r) k)) fun k => ga m c (ix1 k))
    (Dense.rms len (fun k => yb m c (ix2 (row t r) k)) fun k => gb m c (ix1 k))
    (Dense.rms len' (fun k => yc m c (ix2 (row t r) k)) fun k => gc m c (ix1 k))

/-- The three stores' entries are the mix's. -/
theorem part_a (c : Dev nD) (t : Fin cfg0.N) (r : Fin 512) (k : Fin 2048) (l : Fin 512) (h : k.val = l.val) :
    k0_pay5 (iblk m c 0 t) (iblk m c 3 t) (ix2 r l) = mix m c t r k := by
  unfold mix joined
  rw [norm_a_at, dif_pos (by omega : k.val < 512), funext fun k => ya_at m c t r k, funext fun k => ga_at m c t k]
  exact congrArg _ (Fin.ext (by simp only; omega))
@[inherit_doc part_a] theorem part_b (c : Dev nD) (t : Fin cfg0.N) (r : Fin 512) (k : Fin 2048) (l : Fin 512) (h : k.val = 512 + l.val) :
    k0_pay7 (k0_pay6 (iblk m c 1 t)) (iblk m c 4 t) (ix2 r l) = mix m c t r k := by
  unfold mix joined
  rw [norm_b_at, dif_neg (by omega : ¬ k.val < 512), dif_pos (by omega : k.val - 512 < 512), funext fun k => yb_at m c t r k, funext fun k => gb_at m c t k]
  exact congrArg _ (Fin.ext (by simp only; omega))
@[inherit_doc part_a] theorem part_c (c : Dev nD) (t : Fin cfg0.N) (r : Fin 512) (k : Fin 2048) (l : Fin 1024) (h : k.val = 1024 + l.val) :
    k0_pay8 (iblk m c 2 t) (iblk m c 5 t) (ix2 r l) = mix m c t r k := by
  unfold mix joined
  rw [norm_c_at, dif_neg (by omega : ¬ k.val < 512), dif_neg (by omega : ¬ k.val - 512 < 512), funext fun k => yc_at m c t r k, funext fun k => gc_at m c t k]
  exact congrArg _ (Fin.ext (by simp only; omega))

/-- Three column blocks cover the scratch. -/
theorem scratch_cover (A B : Vec Ideal S512x512 .bf16) (C : Vec Ideal S512x1024 .bf16) (r : Fin 512) (k : Fin 2048) :
    ∃ p ∈ ([⟨Rect.unit ![0, 1024] S512x1024.size inb_S512x2048_S512x1024_0_1024, C⟩,
     ⟨Rect.unit ![0, 512] S512x512.size inb_S512x2048_S512x512_0_512, B⟩,
     ⟨Rect.unit ![0, 0] S512x512.size inb_S512x2048_S512x512_0_0, A⟩] : List (View.Piece (Elt Ideal) S512x2048 .bf16)), ix2 r k ∈ p.1.set := by
  by_cases h : k.val < 512
  · refine ⟨⟨Rect.unit ![0, 0] S512x512.size inb_S512x2048_S512x512_0_0, A⟩, .tail _ (.tail _ (.head _)), ?_⟩
    exact (Rect.mem_set_unit (inb := inb_S512x2048_S512x512_0_0)).mpr (Fin.forall_fin_two.mpr ⟨⟨by simp, by simp⟩, ⟨by simp, by simpa using h⟩⟩)
  by_cases h' : k.val < 1024
  · refine ⟨_, .tail _ (.head _), ?_⟩
    exact (Rect.mem_set_unit (inb := inb_S512x2048_S512x512_0_512)).mpr (Fin.forall_fin_two.mpr ⟨⟨by simp, by simp⟩, ⟨by simpa using h, by simpa using h'⟩⟩)
  · refine ⟨_, .head _, ?_⟩
    exact (Rect.mem_set_unit (inb := inb_S512x2048_S512x1024_0_1024)).mpr (Fin.forall_fin_two.mpr ⟨⟨by simp, by simp⟩, ⟨by simpa using h', by simp⟩⟩)

/-- The scratch a point fills and reads whole holds the mix's rows. -/
theorem scratch (c : Dev nD) (t : Fin cfg0.N) (r : Fin 512) (k : Fin 2048) : (View.whole cc0_scratch0).readCov (Val := Elt Ideal)
    [⟨Rect.unit ![0, 1024] S512x1024.size inb_S512x2048_S512x1024_0_1024, k0_pay8 (iblk m c 2 t) (iblk m c 5 t)⟩,
     ⟨Rect.unit ![0, 512] S512x512.size inb_S512x2048_S512x512_0_512, k0_pay7 (k0_pay6 (iblk m c 1 t)) (iblk m c 4 t)⟩,
     ⟨Rect.unit ![0, 0] S512x512.size inb_S512x2048_S512x512_0_0, k0_pay5 (iblk m c 0 t) (iblk m c 3 t)⟩]
    (Rect.unit ![0, 0] S512x2048.size inb_S512x2048_S512x2048_0_0).toLoadRect (ix2 r k) = mix m c t r k := by
  rw [View.readCov_eq_canon']
  have e : (Rect.unit ![0, 0] S512x2048.size inb_S512x2048_S512x2048_0_0).toLoadRect.idx (ix2 r k) = ix2 r k := by
    rw [eq_ix2 ((Rect.unit ![0, 0] S512x2048.size inb_S512x2048_S512x2048_0_0).toLoadRect.idx (ix2 r k))]
    congr 1 <;> exact Fin.ext (by simp)
  beta_reduce
  rw [e]
  canon_tiles x h using (scratch_cover _ _ _ r k)
  · obtain ⟨r', l, rfl⟩ : ∃ (r' : Fin 512) (l : Fin 1024), x = ix2 r' l := ⟨x 0, x 1, eq_ix2 x⟩
    obtain rfl : r = r' := Fin.ext h0
    exact part_c m c t r k l h1
  · obtain ⟨r', l, rfl⟩ : ∃ r' l : Fin 512, x = ix2 r' l := ⟨x 0, x 1, eq_ix2 x⟩
    obtain rfl : r = r' := Fin.ext h0
    exact part_b m c t r k l h1
  · obtain ⟨r', l, rfl⟩ : ∃ r' l : Fin 512, x = ix2 r' l := ⟨x 0, x 1, eq_ix2 x⟩
    obtain rfl : r = r' := Fin.ext h0
    exact part_a m c t r k l h1

/-- One column block's entries: `o` the block's first column. -/
theorem column (c : Dev nD) (t : Fin cfg0.N) (o : ℕ) (hx : ∀ a, ![0, o] a + S512x512.size a ≤ S512x2048.size a)
    (hw : ∀ a, ![0, o] a + S2048x512.size a ≤ S2048x2048.size a) (h : Vec Ideal S512x2048 .bf16) (r : Fin 512) (j : Fin 2048)
    (x : S512x512.Idx) (hh : ∀ k, h (ix2 r k) = mix m c t r k) (h0 : r.val = (x 0).val) (h1 : j.val = o + (x 1).val) :
    k0_pay9 (View.ld (iblk m c 7 t) (Rect.unit ![0, o] S512x512.size hx)) h
      (View.ld (iblk m c 6 t) (Rect.unit ![0, o] S2048x512.size hw)) x
      = stream m c (ix2 (row t r) j) + ∑ k, mix m c t r k * wout m c (ix2 k j) := by
  obtain ⟨r', l, rfl⟩ : ∃ r' l : Fin 512, x = ix2 r' l := ⟨x 0, x 1, eq_ix2 x⟩
  obtain rfl : r = r' := Fin.ext h0
  rw [body_at]
  congr 1
  · rw [← stream_at]
    exact View.ld_unit_apply_of _ _ _ _ _ _ (Fin.forall_fin_two.mpr ⟨by simp, by simpa using h1⟩)
  · refine Finset.sum_congr rfl fun k _ => ?_
    rw [hh, ← wout_at m c t]
    congr 1
    exact View.ld_unit_apply_of _ _ _ _ _ _ (Fin.forall_fin_two.mpr ⟨by simp, by simpa using h1⟩)

/-- A point's block of the first result. -/
theorem block (c : Dev nD) (t : Fin cfg0.N) (r : Fin 512) (j : Fin 2048) : (outsAt0 m c t).1 (ix2 r j)
    = stream m c (ix2 (row t r) j) + ∑ k, mix m c t r k * wout m c (ix2 k j) := by
  unfold outsAt0
  dsimp only
  unfold out0_A_9
  frame_out
  canon_tiles x h
  · exact column m c t 1536 _ _ _ r j x (scratch m c t r) h0 h1
  · exact column m c t 1024 _ _ _ r j x (scratch m c t r) h0 h1
  · exact column m c t 512 _ _ _ r j x (scratch m c t r) h0 h1
  · exact column m c t 0 _ _ _ r j x (scratch m c t r) h0 (by rw [Nat.zero_add]; exact h1)

/-- A point's block of the second result. -/
theorem slab (c : Dev nD) (t : Fin cfg0.N) (r : Fin 64) (j : Fin 4352) : (outsAt0 m c t).2 (ix2 r j)
    = win m c (ix3 1 ⟨t.val * 64 + r.val, by have := point_lt t; omega⟩ j) := by
  rw [← win_at]
  unfold outsAt0
  dsimp only
  unfold out0_A_10
  frame_out
  pointwise [k0_pay4]

/-- The first result array after the launch is the reference's. -/
theorem result (c : Dev nD) : (dats m 0 c).arrAt 9 cfg0.N
    = Reference5Ideal.Value.proj (ya m c) (yb m c) (yc m c) (ga m c) (gb m c) (gc m c) (wout m c) (stream m c) := by
  refine (dats m 0 c).arrAt_eq_of_covers 9 _ (by decide +kernel) fun t hf y => ?_
  blk_simp
  rw [after0_9]
  have ht := point_lt t
  obtain ⟨r, j, rfl⟩ : ∃ (r : Fin 512) (j : Fin 2048), y = ix2 r j := ⟨y 0, y 1, eq_ix2 y⟩
  refine (block m c t r j).trans (Eq.trans ?_ (b := Reference5Ideal.Value.proj (ya m c) (yb m c) (yc m c) (ga m c) (gb m c) (gc m c) (wout m c)
    (stream m c) (ix2 ⟨t.val * 512 + r.val, by omega⟩ j)) (by blk_ext [idx t]))
  unfold Reference5Ideal.Value.proj
  rw [Reference5Ideal.Value.out_at]
  refine congrArg _ (Finset.sum_congr rfl fun k _ => ?_)
  rw [Reference5Ideal.Value.mixed_at, funext fun k => Reference5Ideal.Value.normed_at (ya m c) _ _ k,
    funext fun k => Reference5Ideal.Value.normed_at (yb m c) _ _ k, funext fun k => Reference5Ideal.Value.normed'_at (yc m c) _ _ k]
  rfl

/-- The second result array after the launch is the reference's. -/
theorem result' (c : Dev nD) : (dats m 0 c).arrAt 10 cfg0.N = Reference5Ideal.Value.cast (win m c) := by
  refine (dats m 0 c).arrAt_eq_of_covers 10 _ (by decide +kernel) fun t hf y => ?_
  blk_simp
  rw [after0_10]
  have ht := point_lt t
  obtain ⟨r, j, rfl⟩ : ∃ (r : Fin 64) (j : Fin 4352), y = ix2 r j := ⟨y 0, y 1, eq_ix2 y⟩
  refine (slab m c t r j).trans (Eq.trans ?_ (b := Reference5Ideal.Value.cast (win m c) (ix2 ⟨t.val * 64 + r.val, by omega⟩ j)) (by blk_ext [idx t]))
  rw [Reference5Ideal.Value.cast_at]

end Cert.Kernel5Ideal.Value

end
-- ==== Proof.InKernel.lean ====
/- The input projection: a block of 512 rows is normalised and kept, its product with the weights is taken in column blocks of
   256, and every tile of 128 columns (two heads) is stored as it is, scaled, rotated by position, or both. Beside it the launch
   casts the layer's three other weights. The four result arrays are the reference's. -/
module

public import proofs.«01_k».proof.Proof.Gen.Kernel6Ideal.Value
public import proofs.«01_k».proof.Proof.Gen.Reference6Ideal.Run
public import proofs.«01_k».proof.Proof.UpKernel
public import Idealize.ShloMosaic.Lib.LayoutAt
public import Idealize.ShloMosaic.Lib.Pipeline.ReadBack

@[expose] public section

set_option maxRecDepth 16384

noncomputable section

namespace Cert.Reference6Ideal.Value

open Cert.Reference6Ideal Cert.Reference6Ideal.Gen Idealize.ShloMosaic Idealize.ShloMosaic.TcCoe Idealize.SL.Sem
open Cert.Reference3Ideal.Value (normed normed_at)

/-- The queries' scale, as the programs write it. -/
abbrev scale : EReal := Ideal.ofBits .f32 0x3E000000#32

/-- A head's 64 entries turned by a position's 32 angles, given by their cosines and sines: entry `l` pairs with entry
    `l + 32`. -/
def turn (f : Fin 64 → EReal) (cs sn : Fin 32 → EReal) (l : Fin 64) : EReal :=
  if h : l.val < 32 then f l * cs ⟨l.val, h⟩ - f ⟨32 + l.val, by omega⟩ * sn ⟨l.val, h⟩
  else f ⟨32 + (l.val - 32), by omega⟩ * cs ⟨l.val - 32, by omega⟩ + f ⟨l.val - 32, by omega⟩ * sn ⟨l.val - 32, by omega⟩

/-- A row's 68 heads as the projection leaves them, from its heads before: the first mixer's queries scaled, the second's and
    third's queries turned and scaled, their keys turned, the rest as it is. -/
def entry (f : Fin 68 → Fin 64 → EReal) (cs sn : Fin 32 → EReal) (h : Fin 68) (l : Fin 64) : EReal :=
  if h.val < 8 then f h l * scale
  else if h.val < 24 then f h l
  else if h.val < 32 then turn (f h) cs sn l * scale
  else if h.val < 40 then turn (f h) cs sn l
  else if h.val < 48 then f h l
  else if h.val < 64 then turn (f h) cs sn l * scale
  else if h.val < 66 then turn (f h) cs sn l
  else f h l

/-- The angles: a position times the frequencies. -/
def angles : FVec Ideal S4096x32 .f32 :=
  mulf (broadcastInDim S4096x32 ![0, 1] bcast_S4096x1_S4096x32_0_1 (broadcastInDim S4096x1 ![0] bcast_S4096_S4096x1_0
    (sitofp .f32 (iotaInDim S4096 32 0)))) (broadcastInDim S4096x32 ![0, 1] bcast_S1x32_S4096x32_0_1 (broadcastInDim S1x32 ![1] bcast_S32_S1x32_1
    (Host.powf (broadcastInDim S32 ![] bcast_S_S32 (constant S_ .f32 0x461C4000#32)) (Host.divf (mulf (Host.negf (sitofp .f32 (iotaInDim S32 32 0)))
      (broadcastInDim S32 ![] bcast_S_S32 (constant S_ .f32 0x40000000#32))) (broadcastInDim S32 ![] bcast_S_S32 (constant S_ .f32 0x42800000#32))))))

/-- Their cosines and sines. -/
def cosines : FVec Ideal S4096x32 .f32 := Host.cos angles
@[inherit_doc cosines] def sines : FVec Ideal S4096x32 .f32 := Host.sin angles

/-- The reference's projection, head by head. -/
def heads (h : FVec Ideal S16384x2048 .f32) (w : FVec Ideal S2048x4352 .bf16) : FVec Ideal S4x4096x68x64 .f32 :=
  shapeCast _ (Host.dotGeneral dot_S16384x2048_S2048x4352_S16384x4352_1_0_0_1_n_n none h (extf .f32 w bitsLt_bf16_f32))
    shapeCasts_S16384x4352_S4x4096x68x64

/-- Its entries. -/
theorem heads_at (h : FVec Ideal S16384x2048 .f32) (w : FVec Ideal S2048x4352 .bf16) (b : Fin 4) (s : Fin 4096) (a : Fin 68) (l : Fin 64) :
    heads h w (ix4 b s a l) = ∑ k : Fin 2048, h (ix2 ⟨b.val * 4096 + s.val, by omega⟩ k) * w (ix2 k ⟨a.val * 64 + l.val, by omega⟩) := by
  pointwise [heads]

/-- The rotation of the second mixer's queries and keys, sixteen heads. -/
def turned (p : FVec Ideal S4x4096x16x64 .f32) (cs sn : FVec Ideal S4096x32 .f32) : FVec Ideal S4x4096x16x64 .f32 :=
  have cb := broadcastInDim S4x4096x16x32 ![0, 1, 2, 3] bcast_S1x4096x1x32_S4x4096x16x32_0_1_2_3
    (broadcastInDim S1x4096x1x32 ![1, 2, 3] bcast_S4096x1x32_S1x4096x1x32_1_2_3 (broadcastInDim S4096x1x32 ![0, 2] bcast_S4096x32_S4096x1x32_0_2 cs))
  have sb := broadcastInDim S4x4096x16x32 ![0, 1, 2, 3] bcast_S1x4096x1x32_S4x4096x16x32_0_1_2_3
    (broadcastInDim S1x4096x1x32 ![1, 2, 3] bcast_S4096x1x32_S1x4096x1x32_1_2_3 (broadcastInDim S4096x1x32 ![0, 2] bcast_S4096x32_S4096x1x32_0_2 sn))
  have p₁ := extractStridedSlice S4x4096x16x32 ![0, 0, 0, 0] p slices_S4x4096x16x64_S4x4096x16x32_0_0_0_0
  have p₂ := extractStridedSlice S4x4096x16x32 ![0, 0, 0, 32] p slices_S4x4096x16x64_S4x4096x16x32_0_0_0_32
  concatenate S4x4096x16x64 3 [⟨S4x4096x16x32, subf (mulf p₁ cb) (mulf p₂ sb)⟩, ⟨S4x4096x16x32, addf (mulf p₂ cb) (mulf p₁ sb)⟩]
    concatenates_S4x4096x16x32_S4x4096x16x32_S4x4096x16x64_d3

/-- Its entries. -/
theorem turned_at (p : FVec Ideal S4x4096x16x64 .f32) (cs sn : FVec Ideal S4096x32 .f32) (b : Fin 4) (s : Fin 4096) (a : Fin 16) (l : Fin 64) :
    turned p cs sn (ix4 b s a l) = turn (fun l => p (ix4 b s a l)) (fun k => cs (ix2 s k)) (fun k => sn (ix2 s k)) l := by
  unfold turn
  pointwise [turned]

/-- The rotation of the third mixer's queries and keys, eighteen heads. -/
def turned' (p : FVec Ideal S4x4096x18x64 .f32) (cs sn : FVec Ideal S4096x32 .f32) : FVec Ideal S4x4096x18x64 .f32 :=
  have cb := broadcastInDim S4x4096x18x32 ![0, 1, 2, 3] bcast_S1x4096x1x32_S4x4096x18x32_0_1_2_3
    (broadcastInDim S1x4096x1x32 ![1, 2, 3] bcast_S4096x1x32_S1x4096x1x32_1_2_3 (broadcastInDim S4096x1x32 ![0, 2] bcast_S4096x32_S4096x1x32_0_2 cs))
  have sb := broadcastInDim S4x4096x18x32 ![0, 1, 2, 3] bcast_S1x4096x1x32_S4x4096x18x32_0_1_2_3
    (broadcastInDim S1x4096x1x32 ![1, 2, 3] bcast_S4096x1x32_S1x4096x1x32_1_2_3 (broadcastInDim S4096x1x32 ![0, 2] bcast_S4096x32_S4096x1x32_0_2 sn))
  have p₁ := extractStridedSlice S4x4096x18x32 ![0, 0, 0, 0] p slices_S4x4096x18x64_S4x4096x18x32_0_0_0_0
  have p₂ := extractStridedSlice S4x4096x18x32 ![0, 0, 0, 32] p slices_S4x4096x18x64_S4x4096x18x32_0_0_0_32
  concatenate S4x4096x18x64 3 [⟨S4x4096x18x32, subf (mulf p₁ cb) (mulf p₂ sb)⟩, ⟨S4x4096x18x32, addf (mulf p₂ cb) (mulf p₁ sb)⟩]
    concatenates_S4x4096x18x32_S4x4096x18x32_S4x4096x18x64_d3

/-- Its entries. -/
theorem turned'_at (p : FVec Ideal S4x4096x18x64 .f32) (cs sn : FVec Ideal S4096x32 .f32) (b : Fin 4) (s : Fin 4096) (a : Fin 18) (l : Fin 64) :
    turned' p cs sn (ix4 b s a l) = turn (fun l => p (ix4 b s a l)) (fun k => cs (ix2 s k)) (fun k => sn (ix2 s k)) l := by
  unfold turn
  pointwise [turned']

/-- The eight groups of heads side by side. -/
def arranged (p : FVec Ideal S4x4096x68x64 .f32) (tb : FVec Ideal S4x4096x16x64 .f32) (tc : FVec Ideal S4x4096x18x64 .f32) : FVec Ideal S4x4096x68x64 .f32 :=
  concatenate S4x4096x68x64 2 [⟨S4x4096x8x64, mulf (extractStridedSlice S4x4096x8x64 ![0, 0, 0, 0] p slices_S4x4096x68x64_S4x4096x8x64_0_0_0_0)
      (broadcastInDim S4x4096x8x64 ![] bcast_S_S4x4096x8x64 (constant S_ .f32 0x3E000000#32))⟩,
    ⟨S4x4096x16x64, extractStridedSlice S4x4096x16x64 ![0, 0, 8, 0] p slices_S4x4096x68x64_S4x4096x16x64_0_0_8_0⟩,
    ⟨S4x4096x8x64, mulf (extractStridedSlice S4x4096x8x64 ![0, 0, 0, 0] tb slices_S4x4096x16x64_S4x4096x8x64_0_0_0_0)
      (broadcastInDim S4x4096x8x64 ![] bcast_S_S4x4096x8x64 (constant S_ .f32 0x3E000000#32))⟩,
    ⟨S4x4096x8x64, extractStridedSlice S4x4096x8x64 ![0, 0, 8, 0] tb slices_S4x4096x16x64_S4x4096x8x64_0_0_8_0⟩,
    ⟨S4x4096x8x64, extractStridedSlice S4x4096x8x64 ![0, 0, 40, 0] p slices_S4x4096x68x64_S4x4096x8x64_0_0_40_0⟩,
    ⟨S4x4096x16x64, mulf (extractStridedSlice S4x4096x16x64 ![0, 0, 0, 0] tc slices_S4x4096x18x64_S4x4096x16x64_0_0_0_0)
      (broadcastInDim S4x4096x16x64 ![] bcast_S_S4x4096x16x64 (constant S_ .f32 0x3E000000#32))⟩,
    ⟨S4x4096x2x64, extractStridedSlice S4x4096x2x64 ![0, 0, 16, 0] tc slices_S4x4096x18x64_S4x4096x2x64_0_0_16_0⟩,
    ⟨S4x4096x2x64, extractStridedSlice S4x4096x2x64 ![0, 0, 66, 0] p slices_S4x4096x68x64_S4x4096x2x64_0_0_66_0⟩]
    concatenates_S4x4096x8x64_S4x4096x16x64_S4x4096x8x64_S4x4096x8x64_S4x4096x8x64_S4x4096x16x64_S4x4096x2x64_S4x4096x2x64_S4x4096x68x64_d2

/-- The second and the third mixer's queries and keys before the rotation. -/
def pairB (p : FVec Ideal S4x4096x68x64 .f32) : FVec Ideal S4x4096x16x64 .f32 :=
  extractStridedSlice S4x4096x16x64 ![0, 0, 24, 0] p slices_S4x4096x68x64_S4x4096x16x64_0_0_24_0
@[inherit_doc pairB] def pairC (p : FVec Ideal S4x4096x68x64 .f32) : FVec Ideal S4x4096x18x64 .f32 :=
  extractStridedSlice S4x4096x18x64 ![0, 0, 48, 0] p slices_S4x4096x68x64_S4x4096x18x64_0_0_48_0

/-- All heads of the result. -/
def rows (p : FVec Ideal S4x4096x68x64 .f32) : FVec Ideal S4x4096x68x64 .f32 :=
  arranged p (turned (pairB p) cosines sines) (turned' (pairC p) cosines sines)

/-- Its entries. -/
theorem rows_at (p : FVec Ideal S4x4096x68x64 .f32) (b : Fin 4) (s : Fin 4096) (a : Fin 68) (l : Fin 64) :
    rows p (ix4 b s a l) = entry (fun a l => p (ix4 b s a l)) (fun k => cosines (ix2 s k)) (fun k => sines (ix2 s k)) a l := by
  unfold entry rows
  pointwise [arranged, turned_at, turned'_at, pairB, pairC]
  repeat' split
  all_goals first
    | (exfalso; omega)
    | rfl
    | (refine congrArg (fun a : Fin 68 => p (ix4 b s a l)) (Fin.ext ?_); dsimp only; omega)
    | (refine congrArg (fun a : Fin 68 => turn (fun l => p (ix4 b s a l)) (fun k => cosines (ix2 s k)) (fun k => sines (ix2 s k)) l) (Fin.ext ?_)
       dsimp only; omega)
    | (refine congrArg (fun v : EReal => v * scale) (congrArg (fun a : Fin 68 => turn (fun l => p (ix4 b s a l)) (fun k => cosines (ix2 s k))
         (fun k => sines (ix2 s k)) l) (Fin.ext ?_))
       dsimp only; omega)

/-- The first result: tokens by channels, rounded. -/
def proj (x : FVec Ideal S16384x2048 .f32) (g : FVec Ideal S2048 .f32) (w : FVec Ideal S2048x4352 .bf16) : FVec Ideal S16384x4352 .bf16 :=
  truncf .bf16 (shapeCast _ (rows (heads (normed x g) w)) shapeCasts_S4x4096x68x64_S16384x4352) bitsLt_bf16_f32

/-- Its entries. -/
theorem proj_at (x : FVec Ideal S16384x2048 .f32) (g : FVec Ideal S2048 .f32) (w : FVec Ideal S2048x4352 .bf16) (i : Fin 16384) (j : Fin 4352) :
    proj x g w (ix2 i j) = rows (heads (normed x g) w) (ix4 ⟨i.val / 4096, by omega⟩ ⟨i.val % 4096, by omega⟩ ⟨j.val / 64, by omega⟩ ⟨j.val % 64, by omega⟩) := by
  pointwise [proj]

/-- The launch's three other results: the first layer's up, down and output weights, cast. -/
def castUp (w : FVec Ideal S2x2048x8192 .f32) : FVec Ideal S2048x8192 .bf16 :=
  truncf .bf16 (shapeCast _ (extractStridedSlice S1x2048x8192 ![0, 0, 0] w slices_S2x2048x8192_S1x2048x8192_0_0_0)
    shapeCasts_S1x2048x8192_S2048x8192) bitsLt_bf16_f32
@[inherit_doc castUp] def castDown (w : FVec Ideal S2x8192x2048 .f32) : FVec Ideal S8192x2048 .bf16 :=
  truncf .bf16 (shapeCast _ (extractStridedSlice S1x8192x2048 ![0, 0, 0] w slices_S2x8192x2048_S1x8192x2048_0_0_0)
    shapeCasts_S1x8192x2048_S8192x2048) bitsLt_bf16_f32
@[inherit_doc castUp] def castOut (w : FVec Ideal S2x2048x2048 .f32) : FVec Ideal S2048x2048 .bf16 :=
  truncf .bf16 (shapeCast _ (extractStridedSlice S1x2048x2048 ![0, 0, 0] w slices_S2x2048x2048_S1x2048x2048_0_0_0)
    shapeCasts_S1x2048x2048_S2048x2048) bitsLt_bf16_f32

/-- Their entries. -/
theorem castUp_at (w : FVec Ideal S2x2048x8192 .f32) (i : Fin 2048) (j : Fin 8192) : castUp w (ix2 i j) = w (ix3 0 i j) := by
  pointwise [castUp]
@[inherit_doc castUp_at] theorem castDown_at (w : FVec Ideal S2x8192x2048 .f32) (i : Fin 8192) (j : Fin 2048) : castDown w (ix2 i j) = w (ix3 0 i j) := by
  pointwise [castDown]
@[inherit_doc castUp_at] theorem castOut_at (w : FVec Ideal S2x2048x2048 .f32) (i : Fin 2048) (j : Fin 2048) : castOut w (ix2 i j) = w (ix3 0 i j) := by
  pointwise [castOut]

/-- The results are functions of the arguments. -/
theorem proj_congr {x x' : FVec Ideal S16384x2048 .f32} {g g' : FVec Ideal S2048 .f32} {w w' : FVec Ideal S2048x4352 .bf16}
    (h0 : x' = x) (h1 : g' = g) (h2 : w' = w) : proj x' g' w' = proj x g w := by rw [h0, h1, h2]
@[inherit_doc proj_congr] theorem castUp_congr {w w' : FVec Ideal S2x2048x8192 .f32} (h : w' = w) : castUp w' = castUp w := by rw [h]
@[inherit_doc proj_congr] theorem castDown_congr {w w' : FVec Ideal S2x8192x2048 .f32} (h : w' = w) : castDown w' = castDown w := by rw [h]
@[inherit_doc proj_congr] theorem castOut_congr {w w' : FVec Ideal S2x2048x2048 .f32} (h : w' = w) : castOut w' = castOut w := by rw [h]

/-- The run's composed term is that function of the arguments. -/
theorem res_eq (m : (ℓ : Loc nD τ sig) → Buf (Elt Ideal) ℓ) (c : Dev nD) (x : FVec Ideal S16384x2048 .f32) (g : FVec Ideal S2048 .f32)
    (w : FVec Ideal S2048x4352 .bf16) (hx : m ((c.tc : Thread nD τ).loc main_arg0) = x) (hg : m ((c.tc : Thread nD τ).loc main_arg1) = g)
    (hw : m ((c.tc : Thread nD τ).loc main_arg2) = w) : res_main_v86 m c = proj x g w := by
  subst hx hg hw
  rfl

end Cert.Reference6Ideal.Value

namespace Cert.Kernel6Ideal.Value

open Cert.Kernel6Ideal Cert.Kernel6Ideal.Gen Idealize.ShloMosaic Idealize.ShloMosaic.TcCoe Idealize.SL.Sem
open Cert.Reference6Ideal.Value (scale turn entry cosines sines)

variable (m : (ℓ : Loc nD τ sig) → Buf (Elt Ideal) ℓ)

/-- Where each window's block lies at a grid point: the tables repeat every eight points, the gain and the weights are read
    whole, every other array is cut into 32 row blocks. -/
theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![0, t.val, 0] ∧ win0_6.index t = ![0, t.val, 0]
    ∧ win0_7.index t = ![0, t.val, 0] ∧ win0_8.index t = ![t.val, 0] ∧ win0_9.index t = ![t.val, 0] ∧ win0_10.index t = ![t.val, 0]
    ∧ win0_11.index t = ![t.val, 0] := by
  decide +kernel

/-- A point's number is below 32. -/
theorem point_lt (t : Fin cfg0.N) : t.val < 32 := t.isLt

/-- The stream, the gain, the input weights and the three weights to be cast as the launch finds them. -/
abbrev stream (c : Dev nD) : FVec Ideal S16384x2048 .f32 := m ((c.tc : Thread nD τ).loc main_arg0)
@[inherit_doc stream] abbrev gain (c : Dev nD) : FVec Ideal S2048 .f32 := m ((c.tc : Thread nD τ).loc main_arg1)
@[inherit_doc stream] abbrev weights (c : Dev nD) : FVec Ideal S2048x4352 .bf16 := m ((c.tc : Thread nD τ).loc main_arg2)
@[inherit_doc stream] abbrev wup (c : Dev nD) : FVec Ideal S2x2048x8192 .f32 := m ((c.tc : Thread nD τ).loc main_arg3)
@[inherit_doc stream] abbrev wdown (c : Dev nD) : FVec Ideal S2x8192x2048 .f32 := m ((c.tc : Thread nD τ).loc main_arg4)
@[inherit_doc stream] abbrev wout (c : Dev nD) : FVec Ideal S2x2048x2048 .f32 := m ((c.tc : Thread nD τ).loc main_arg5)

/-- The array's row that row `r` of a point's block is, and its position in its sequence. -/
def row (t : Fin cfg0.N) (r : Fin 512) : Fin 16384 := ⟨t.val * 512 + r.val, by have := point_lt t; omega⟩
@[inherit_doc row] def pos (t : Fin cfg0.N) (r : Fin 512) : Fin 4096 := ⟨t.val % 8 * 512 + r.val, by omega⟩

/-- The blocks a point reads are blocks of the arrays. -/
theorem stream_at (c : Dev nD) (t : Fin cfg0.N) (r : Fin 512) (k : Fin 2048) : iblk m c 0 t (ix2 r k) = stream m c (ix2 (row t r) k) := by
  unfold row; blk_ext [iblk, V, idx t]
@[inherit_doc stream_at] theorem weights_at (c : Dev nD) (t : Fin cfg0.N) (k : Fin 2048) (j : Fin 4352) :
    iblk m c 2 t (ix2 k j) = weights m c (ix2 k j) := by
  blk_ext [iblk, V, idx t]
@[inherit_doc stream_at] theorem wup_at (c : Dev nD) (t : Fin cfg0.N) (r : Fin 64) (j : Fin 8192) :
    iblk m c 5 t (ix3 0 r j) = wup m c (ix3 0 ⟨t.val * 64 + r.val, by have := point_lt t; omega⟩ j) := by
  blk_ext [iblk, V, idx t]
@[inherit_doc stream_at] theorem wdown_at (c : Dev nD) (t : Fin cfg0.N) (r : Fin 256) (j : Fin 2048) :
    iblk m c 6 t (ix3 0 r j) = wdown m c (ix3 0 ⟨t.val * 256 + r.val, by have := point_lt t; omega⟩ j) := by
  blk_ext [iblk, V, idx t]
@[inherit_doc stream_at] theorem wout_at (c : Dev nD) (t : Fin cfg0.N) (r : Fin 64) (j : Fin 2048) :
    iblk m c 7 t (ix3 0 r j) = wout m c (ix3 0 ⟨t.val * 64 + r.val, by have := point_lt t; omega⟩ j) := by
  blk_ext [iblk, V, idx t]

/-- The gain reaches the launch as one row. -/
theorem gain_row (c : Dev nD) : (V m c main_v24 : FVec Ideal S1x2048 .f32) = fun i => gain m c (ix1 (i 1)) := by
  unfold_abbrev_sides
  after_results
  funext i
  obtain ⟨k, rfl⟩ : ∃ k : Fin 2048, i = ix2 0 k := ⟨i 1, by rw [eq_ix2 i]; congr 1; exact Subsingleton.elim _ _⟩
  pointwise []

/-- Its block is the gain. -/
theorem gain_at (c : Dev nD) (t : Fin cfg0.N) (k : Fin 2048) : iblk m c 1 t (ix2 0 k) = gain m c (ix1 k) := by
  have e : iblk m c 1 t (ix2 0 k) = (V m c main_v24 : FVec Ideal S1x2048 .f32) (ix2 0 k) := by blk_ext [iblk, idx t]
  exact e.trans (congrFun (gain_row m c) _)

/-- A table of 32 columns four times side by side. -/
def wide (v : FVec Ideal S4096x32 .f32) : FVec Ideal S4096x128 .f32 :=
  shapeCast _ (broadcastInDim S1x4096x4x32 ![0, 1, 2, 3] bcast_S1x4096x1x32_S1x4096x4x32_0_1_2_3
    (shapeCast S1x4096x1x32 v shapeCasts_S4096x32_S1x4096x1x32)) shapeCasts_S1x4096x4x32_S4096x128

/-- Its entries. -/
theorem wide_at (v : FVec Ideal S4096x32 .f32) (p : Fin 4096) (l : Fin 128) : wide v (ix2 p l) = v (ix2 p ⟨l.val % 32, by omega⟩) := by
  pointwise [wide]

/-- The launch's cosines. -/
theorem cos_row (c : Dev nD) : (V m c main_v18 : FVec Ideal S4096x128 .f32) = wide cosines := by
  unfold_abbrev_sides
  after_results
  rfl

/-- Its block. -/
theorem cos_at (c : Dev nD) (t : Fin cfg0.N) (r : Fin 512) (l : Fin 128) :
    iblk m c 3 t (ix2 r l) = cosines (ix2 (pos t r) ⟨l.val % 32, by omega⟩) := by
  have e : iblk m c 3 t (ix2 r l) = (V m c main_v18 : FVec Ideal S4096x128 .f32) (ix2 (pos t r) l) := by unfold pos; blk_ext [iblk, idx t]
  exact (e.trans (congrFun (cos_row m c) _)).trans (wide_at _ _ _)

/-- A table with its negative before it, twice side by side. -/
def signed (v : FVec Ideal S4096x32 .f32) : FVec Ideal S4096x128 .f32 :=
  shapeCast _ (broadcastInDim S1x4096x2x64 ![0, 1, 2, 3] bcast_S1x4096x1x64_S1x4096x2x64_0_1_2_3
    (shapeCast S1x4096x1x64 (concatenate S4096x64 1 [⟨S4096x32, Host.negf v⟩, ⟨S4096x32, v⟩] concatenates_S4096x32_S4096x32_S4096x64_d1)
      shapeCasts_S4096x64_S1x4096x1x64)) shapeCasts_S1x4096x2x64_S4096x128

/-- Its entries. -/
theorem signed_at (v : FVec Ideal S4096x32 .f32) (p : Fin 4096) (l : Fin 128) : signed v (ix2 p l)
    = if h : l.val % 64 < 32 then -v (ix2 p ⟨l.val % 64, h⟩) else v (ix2 p ⟨l.val % 64 - 32, by omega⟩) := by
  pointwise [signed]

/-- The launch's sines. -/
theorem sin_row (c : Dev nD) : (V m c main_v23 : FVec Ideal S4096x128 .f32) = signed sines := by
  unfold_abbrev_sides
  after_results
  rfl

/-- Its block. -/
theorem sin_at (c : Dev nD) (t : Fin cfg0.N) (r : Fin 512) (l : Fin 128) : iblk m c 4 t (ix2 r l)
    = if h : l.val % 64 < 32 then -sines (ix2 (pos t r) ⟨l.val % 64, h⟩) else sines (ix2 (pos t r) ⟨l.val % 64 - 32, by omega⟩) := by
  have e : iblk m c 4 t (ix2 r l) = (V m c main_v23 : FVec Ideal S4096x128 .f32) (ix2 (pos t r) l) := by unfold pos; blk_ext [iblk, idx t]
  exact (e.trans (congrFun (sin_row m c) _)).trans (signed_at _ _ _)

/-- A block's normalised rows. -/
theorem norm_at (x : Vec Ideal S512x2048 .f32) (g : Vec Ideal S1x2048 .f32) (r : Fin 512) (k : Fin 2048) :
    k0_pay6 x g (ix2 r k) = Dense.rms (Ideal.ofBits .f32 0x45000000#32) (fun k => x (ix2 r k)) (fun k => g (ix2 0 k)) k := by
  unfold Dense.rms
  pointwise [k0_pay6]

/-- The two halves of a column block. -/
def lower (v : FVec Ideal S512x256 .f32) : FVec Ideal S512x128 .f32 := extractStridedSlice S512x128 ![0, 0] v slices_S512x256_o0_0_S512x128
@[inherit_doc lower] def upper (v : FVec Ideal S512x256 .f32) : FVec Ideal S512x128 .f32 := extractStridedSlice S512x128 ![0, 128] v slices_S512x256_o0_128_S512x128

/-- Their entries. -/
theorem lower_at (h : Vec Ideal S512x2048 .bf16) (w : Vec Ideal S2048x256 .bf16) (r : Fin 512) (l : Fin 128) :
    lower (k0_pay8 h w) (ix2 r l) = ∑ k : Fin 2048, h (ix2 r k) * w (ix2 k ⟨l.val, by omega⟩) := by
  pointwise [lower, k0_pay8]
@[inherit_doc lower_at] theorem upper_at (h : Vec Ideal S512x2048 .bf16) (w : Vec Ideal S2048x256 .bf16) (r : Fin 512) (l : Fin 128) :
    upper (k0_pay8 h w) (ix2 r l) = ∑ k : Fin 2048, h (ix2 r k) * w (ix2 k ⟨128 + l.val, by omega⟩) := by
  pointwise [upper, k0_pay8]

/-- A tile turned, by the tables of its block. -/
def rope (a : FVec Ideal S512x128 .f32) (cs sn : Vec Ideal S512x128 .f32) : FVec Ideal S512x128 .f32 :=
  addf (mulf a (shapeCast S512x128 cs shapeCasts_S512x128_S512x128)) (mulf (select k0_pay7 (dynamicRotate 1 96#32 none a rotates_S512x128_d1)
    (dynamicRotate 1 32#32 none a rotates_S512x128_d1)) (shapeCast S512x128 sn shapeCasts_S512x128_S512x128))

/-- A tile scaled. -/
def scaled (a : FVec Ideal S512x128 .f32) : FVec Ideal S512x128 .f32 := mulf a (broadcast S512x128 (Scalar.ofBits .f32 0x3E000000#32))

/-- The mask marks each head's first half. -/
theorem mask_at (r : Fin 512) (l : Fin 128) : k0_pay7 (ix2 r l) = if l.val % 64 < 32 then 1 else 0 := by
  pointwise [k0_pay7]
  revert l
  decide +kernel

/-- A turned tile's entries. -/
theorem rope_at (a : FVec Ideal S512x128 .f32) (cs sn : Vec Ideal S512x128 .f32) (r : Fin 512) (l : Fin 128) :
    rope a cs sn (ix2 r l) = a (ix2 r l) * cs (ix2 r l) + (if l.val % 64 < 32 then a (ix2 r ⟨(l.val + 128 - 96) % 128, by omega⟩)
      else a (ix2 r ⟨(l.val + 128 - 32) % 128, by omega⟩)) * sn (ix2 r l) := by
  pointwise [rope, mask_at]
  split_ifs <;> rfl

/-- A normalised row, its product with the weights' columns, and the product head by head. -/
def hrow (c : Dev nD) (i : Fin 16384) : Fin 2048 → EReal :=
  Dense.rms (Ideal.ofBits .f32 0x45000000#32) (fun k => stream m c (ix2 i k)) fun k => gain m c (ix1 k)
@[inherit_doc hrow] def prod (c : Dev nD) (i : Fin 16384) (j : Fin 4352) : EReal := ∑ k, hrow m c i k * weights m c (ix2 k j)
@[inherit_doc hrow] def head (c : Dev nD) (i : Fin 16384) (a : Fin 68) (l : Fin 64) : EReal := prod m c i ⟨a.val * 64 + l.val, by omega⟩

/-- An entry of the first result. -/
def target (c : Dev nD) (t : Fin cfg0.N) (r : Fin 512) (j : Fin 4352) : EReal :=
  entry (head m c (row t r)) (fun k => cosines (ix2 (pos t r) k)) (fun k => sines (ix2 (pos t r) k)) ⟨j.val / 64, by omega⟩ ⟨j.val % 64, by omega⟩

/-- A tile's products: `q` its column block's first column. -/
theorem lower_part (c : Dev nD) (t : Fin cfg0.N) (q : ℕ) (hq : q + 128 ≤ 4352) (hw : ∀ a, ![0, q] a + S2048x256.size a ≤ S2048x4352.size a)
    (r : Fin 512) (l : Fin 128) : lower (k0_pay8 (k0_pay6 (iblk m c 0 t) (iblk m c 1 t)) (View.ld (iblk m c 2 t) (Rect.unit ![0, q] S2048x256.size hw)))
      (ix2 r l) = prod m c (row t r) ⟨q + l.val, by omega⟩ := by
  unfold prod hrow
  rw [lower_at]
  refine Finset.sum_congr rfl fun k _ => ?_
  rw [norm_at, funext fun k => stream_at m c t r k, funext fun k => gain_at m c t k, ← weights_at m c t]
  congr 1
  exact View.ld_unit_apply_of _ _ _ _ _ _ (Fin.forall_fin_two.mpr ⟨by simp, by simp⟩)
@[inherit_doc lower_part] theorem upper_part (c : Dev nD) (t : Fin cfg0.N) (q : ℕ) (hq : q + 128 + 128 ≤ 4352)
    (hw : ∀ a, ![0, q] a + S2048x256.size a ≤ S2048x4352.size a) (r : Fin 512) (l : Fin 128) :
    upper (k0_pay8 (k0_pay6 (iblk m c 0 t) (iblk m c 1 t)) (View.ld (iblk m c 2 t) (Rect.unit ![0, q] S2048x256.size hw)))
      (ix2 r l) = prod m c (row t r) ⟨q + 128 + l.val, by omega⟩ := by
  unfold prod hrow
  rw [upper_at]
  refine Finset.sum_congr rfl fun k _ => ?_
  rw [norm_at, funext fun k => stream_at m c t r k, funext fun k => gain_at m c t k, ← weights_at m c t]
  congr 1
  exact View.ld_unit_apply_of _ _ _ _ _ _ (Fin.forall_fin_two.mpr ⟨by simp, by simp; omega⟩)

/-- A turned tile's entries are the turned heads'. -/
theorem rope_part (c : Dev nD) (t : Fin cfg0.N) (r : Fin 512) (o : ℕ) (ho : o + 128 ≤ 4352) (hd : o % 128 = 0) (v : FVec Ideal S512x128 .f32)
    (hv : ∀ l : Fin 128, v (ix2 r l) = prod m c (row t r) ⟨o + l.val, by omega⟩) (l : Fin 128) :
    rope v (iblk m c 3 t) (iblk m c 4 t) (ix2 r l) = turn (head m c (row t r) ⟨(o + l.val) / 64, by omega⟩)
      (fun k => cosines (ix2 (pos t r) k)) (fun k => sines (ix2 (pos t r) k)) ⟨(o + l.val) % 64, by omega⟩ := by
  unfold turn head
  rw [rope_at, cos_at, sin_at]
  by_cases h : l.val % 64 < 32
  · rw [if_pos h, dif_pos h, dif_pos (by simp only; omega), hv, hv, mul_neg, ← sub_eq_add_neg]
    congr 4 <;> first | (apply Fin.ext; simp only; omega) | (simp only; omega)
  · rw [if_neg h, dif_neg h, dif_neg (by simp only; omega), hv, hv]
    congr 4 <;> first | (apply Fin.ext; simp only; omega) | (simp only; omega)

/-- A tile stored as it is. -/
theorem plain (c : Dev nD) (t : Fin cfg0.N) (r : Fin 512) (o : ℕ) (ho : o + 128 ≤ 4352) (v : FVec Ideal S512x128 .f32)
    (hv : ∀ l : Fin 128, v (ix2 r l) = prod m c (row t r) ⟨o + l.val, by omega⟩) (j : Fin 4352) (x : S512x128.Idx)
    (h0 : r.val = (x 0).val) (h1 : j.val = o + (x 1).val) (hr : 512 ≤ o ∧ o + 128 ≤ 1536 ∨ 2560 ≤ o ∧ o + 128 ≤ 3072 ∨ 4224 ≤ o) :
    (truncf .bf16 v bitsLt_bf16_f32 : FVec Ideal S512x128 .bf16) x = target m c t r j := by
  obtain ⟨r', l, rfl⟩ : ∃ (r' : Fin 512) (l : Fin 128), x = ix2 r' l := ⟨x 0, x 1, eq_ix2 x⟩
  obtain rfl : r = r' := Fin.ext h0
  have h1 : j.val = o + l.val := h1
  refine (hv l).trans ?_
  unfold target entry head
  dsimp only
  repeat' split
  all_goals first
    | (exfalso; omega)
    | exact congrArg (prod m c (row t r)) (Fin.ext (by simp only; omega))

/-- A tile stored scaled. -/
theorem plain_scaled (c : Dev nD) (t : Fin cfg0.N) (r : Fin 512) (o : ℕ) (ho : o + 128 ≤ 4352) (v : FVec Ideal S512x128 .f32)
    (hv : ∀ l : Fin 128, v (ix2 r l) = prod m c (row t r) ⟨o + l.val, by omega⟩) (j : Fin 4352) (x : S512x128.Idx)
    (h0 : r.val = (x 0).val) (h1 : j.val = o + (x 1).val) (hr : o + 128 ≤ 512) :
    (truncf .bf16 (scaled v) bitsLt_bf16_f32 : FVec Ideal S512x128 .bf16) x = target m c t r j := by
  obtain ⟨r', l, rfl⟩ : ∃ (r' : Fin 512) (l : Fin 128), x = ix2 r' l := ⟨x 0, x 1, eq_ix2 x⟩
  obtain rfl : r = r' := Fin.ext h0
  have h1 : j.val = o + l.val := h1
  refine (congrArg (fun e : EReal => e * scale) (hv l)).trans ?_
  unfold target entry head
  dsimp only
  repeat' split
  all_goals first
    | (exfalso; omega)
    | exact congrArg (fun e : EReal => e * scale) (congrArg (prod m c (row t r)) (Fin.ext (by simp only; omega)))

/-- A tile stored turned. -/
theorem turned (c : Dev nD) (t : Fin cfg0.N) (r : Fin 512) (o : ℕ) (ho : o + 128 ≤ 4352) (hd : o % 128 = 0) (v : FVec Ideal S512x128 .f32)
    (hv : ∀ l : Fin 128, v (ix2 r l) = prod m c (row t r) ⟨o + l.val, by omega⟩) (j : Fin 4352) (x : S512x128.Idx)
    (h0 : r.val = (x 0).val) (h1 : j.val = o + (x 1).val) (hr : 2048 ≤ o ∧ o + 128 ≤ 2560 ∨ 4096 ≤ o ∧ o + 128 ≤ 4224) :
    (truncf .bf16 (rope v (iblk m c 3 t) (iblk m c 4 t)) bitsLt_bf16_f32 : FVec Ideal S512x128 .bf16) x = target m c t r j := by
  obtain ⟨r', l, rfl⟩ : ∃ (r' : Fin 512) (l : Fin 128), x = ix2 r' l := ⟨x 0, x 1, eq_ix2 x⟩
  obtain rfl : r = r' := Fin.ext h0
  have hb : o + l.val < 4352 := by have := l.isLt; omega
  obtain rfl : j = ⟨o + l.val, hb⟩ := Fin.ext h1
  refine (rope_part m c t r o ho hd v hv l).trans ?_
  unfold target entry
  dsimp only
  repeat' split
  all_goals first
    | (exfalso; omega)
    | rfl

/-- A tile stored turned and scaled. -/
theorem turned_scaled (c : Dev nD) (t : Fin cfg0.N) (r : Fin 512) (o : ℕ) (ho : o + 128 ≤ 4352) (hd : o % 128 = 0) (v : FVec Ideal S512x128 .f32)
    (hv : ∀ l : Fin 128, v (ix2 r l) = prod m c (row t r) ⟨o + l.val, by omega⟩) (j : Fin 4352) (x : S512x128.Idx)
    (h0 : r.val = (x 0).val) (h1 : j.val = o + (x 1).val) (hr : 1536 ≤ o ∧ o + 128 ≤ 2048 ∨ 3072 ≤ o ∧ o + 128 ≤ 4096) :
    (truncf .bf16 (scaled (rope v (iblk m c 3 t) (iblk m c 4 t))) bitsLt_bf16_f32 : FVec Ideal S512x128 .bf16) x = target m c t r j := by
  obtain ⟨r', l, rfl⟩ : ∃ (r' : Fin 512) (l : Fin 128), x = ix2 r' l := ⟨x 0, x 1, eq_ix2 x⟩
  obtain rfl : r = r' := Fin.ext h0
  have hb : o + l.val < 4352 := by have := l.isLt; omega
  obtain rfl : j = ⟨o + l.val, hb⟩ := Fin.ext h1
  refine (congrArg (fun e : EReal => e * scale) (rope_part m c t r o ho hd v hv l)).trans ?_
  unfold target entry
  dsimp only
  repeat' split
  all_goals first
    | (exfalso; omega)
    | rfl

/-- A point's block of the first result. -/
theorem block (c : Dev nD) (t : Fin cfg0.N) (r : Fin 512) (j : Fin 4352) : (outsAt0 m c t).1 (ix2 r j) = target m c t r j := by
  unfold outsAt0
  dsimp only
  unfold out0_A_8
  frame_out
  canon_tiles x h
  · exact plain m c t r 4224 (by omega) _ (upper_part m c t 4096 (by omega) _ r) j x h0 h1 (by omega)
  · exact turned m c t r 4096 (by omega) rfl _ (lower_part m c t 4096 (by omega) _ r) j x h0 h1 (by omega)
  · exact turned_scaled m c t r 3968 (by omega) rfl _ (upper_part m c t 3840 (by omega) _ r) j x h0 h1 (by omega)
  · exact turned_scaled m c t r 3840 (by omega) rfl _ (lower_part m c t 3840 (by omega) _ r) j x h0 h1 (by omega)
  · exact turned_scaled m c t r 3712 (by omega) rfl _ (upper_part m c t 3584 (by omega) _ r) j x h0 h1 (by omega)
  · exact turned_scaled m c t r 3584 (by omega) rfl _ (lower_part m c t 3584 (by omega) _ r) j x h0 h1 (by omega)
  · exact turned_scaled m c t r 3456 (by omega) rfl _ (upper_part m c t 3328 (by omega) _ r) j x h0 h1 (by omega)
  · exact turned_scaled m c t r 3328 (by omega) rfl _ (lower_part m c t 3328 (by omega) _ r) j x h0 h1 (by omega)
  · exact turned_scaled m c t r 3200 (by omega) rfl _ (upper_part m c t 3072 (by omega) _ r) j x h0 h1 (by omega)
  · exact turned_scaled m c t r 3072 (by omega) rfl _ (lower_part m c t 3072 (by omega) _ r) j x h0 h1 (by omega)
  · exact plain m c t r 2944 (by omega) _ (upper_part m c t 2816 (by omega) _ r) j x h0 h1 (by omega)
  · exact plain m c t r 2816 (by omega) _ (lower_part m c t 2816 (by omega) _ r) j x h0 h1 (by omega)
  · exact plain m c t r 2688 (by omega) _ (upper_part m c t 2560 (by omega) _ r) j x h0 h1 (by omega)
  · exact plain m c t r 2560 (by omega) _ (lower_part m c t 2560 (by omega) _ r) j x h0 h1 (by omega)
  · exact turned m c t r 2432 (by omega) rfl _ (upper_part m c t 2304 (by omega) _ r) j x h0 h1 (by omega)
  · exact turned m c t r 2304 (by omega) rfl _ (lower_part m c t 2304 (by omega) _ r) j x h0 h1 (by omega)
  · exact turned m c t r 2176 (by omega) rfl _ (upper_part m c t 2048 (by omega) _ r) j x h0 h1 (by omega)
  · exact turned m c t r 2048 (by omega) rfl _ (lower_part m c t 2048 (by omega) _ r) j x h0 h1 (by omega)
  · exact turned_scaled m c t r 1920 (by omega) rfl _ (upper_part m c t 1792 (by omega) _ r) j x h0 h1 (by omega)
  · exact turned_scaled m c t r 1792 (by omega) rfl _ (lower_part m c t 1792 (by omega) _ r) j x h0 h1 (by omega)
  · exact turned_scaled m c t r 1664 (by omega) rfl _ (upper_part m c t 1536 (by omega) _ r) j x h0 h1 (by omega)
  · exact turned_scaled m c t r 1536 (by omega) rfl _ (lower_part m c t 1536 (by omega) _ r) j x h0 h1 (by omega)
  · exact plain m c t r 1408 (by omega) _ (upper_part m c t 1280 (by omega) _ r) j x h0 h1 (by omega)
  · exact plain m c t r 1280 (by omega) _ (lower_part m c t 1280 (by omega) _ r) j x h0 h1 (by omega)
  · exact plain m c t r 1152 (by omega) _ (upper_part m c t 1024 (by omega) _ r) j x h0 h1 (by omega)
  · exact plain m c t r 1024 (by omega) _ (lower_part m c t 1024 (by omega) _ r) j x h0 h1 (by omega)
  · exact plain m c t r 896 (by omega) _ (upper_part m c t 768 (by omega) _ r) j x h0 h1 (by omega)
  · exact plain m c t r 768 (by omega) _ (lower_part m c t 768 (by omega) _ r) j x h0 h1 (by omega)
  · exact plain m c t r 640 (by omega) _ (upper_part m c t 512 (by omega) _ r) j x h0 h1 (by omega)
  · exact plain m c t r 512 (by omega) _ (lower_part m c t 512 (by omega) _ r) j x h0 h1 (by omega)
  · exact plain_scaled m c t r 384 (by omega) _ (upper_part m c t 256 (by omega) _ r) j x h0 h1 (by omega)
  · exact plain_scaled m c t r 256 (by omega) _ (lower_part m c t 256 (by omega) _ r) j x h0 h1 (by omega)
  · exact plain_scaled m c t r 128 (by omega) _ (upper_part m c t 0 (by omega) _ r) j x h0 h1 (by omega)
  · exact plain_scaled m c t r 0 (by omega) _ (lower_part m c t 0 (by omega) _ r) j x h0 (by rw [Nat.zero_add]; exact h1) (by omega)

/-- A point's blocks of the three casts. -/
theorem slab_up (c : Dev nD) (t : Fin cfg0.N) (r : Fin 64) (j : Fin 8192) : (outsAt0 m c t).2.1 (ix2 r j)
    = wup m c (ix3 0 ⟨t.val * 64 + r.val, by have := point_lt t; omega⟩ j) := by
  rw [← wup_at]
  unfold outsAt0
  dsimp only
  unfold out0_A_9
  frame_out
  pointwise [k0_pay3]
@[inherit_doc slab_up] theorem slab_down (c : Dev nD) (t : Fin cfg0.N) (r : Fin 256) (j : Fin 2048) : (outsAt0 m c t).2.2.1 (ix2 r j)
    = wdown m c (ix3 0 ⟨t.val * 256 + r.val, by have := point_lt t; omega⟩ j) := by
  rw [← wdown_at]
  unfold outsAt0
  dsimp only
  unfold out0_A_10
  frame_out
  pointwise [k0_pay4]
@[inherit_doc slab_up] theorem slab_out (c : Dev nD) (t : Fin cfg0.N) (r : Fin 64) (j : Fin 2048) : (outsAt0 m c t).2.2.2 (ix2 r j)
    = wout m c (ix3 0 ⟨t.val * 64 + r.val, by have := point_lt t; omega⟩ j) := by
  rw [← wout_at]
  unfold outsAt0
  dsimp only
  unfold out0_A_11
  frame_out
  pointwise [k0_pay5]

/-- The first result array after the launch is the reference's. -/
theorem result (c : Dev nD) : (dats m 0 c).arrAt 8 cfg0.N = Reference6Ideal.Value.proj (stream m c) (gain m c) (weights m c) := by
  refine (dats m 0 c).arrAt_eq_of_covers 8 _ (by decide +kernel) fun t hf y => ?_
  blk_simp
  rw [after0_8]
  have ht := point_lt t
  obtain ⟨r, j, rfl⟩ : ∃ (r : Fin 512) (j : Fin 4352), y = ix2 r j := ⟨y 0, y 1, eq_ix2 y⟩
  refine (block m c t r j).trans (Eq.trans ?_ (b := Reference6Ideal.Value.proj (stream m c) (gain m c) (weights m c)
    (ix2 ⟨t.val * 512 + r.val, by omega⟩ j)) (by blk_ext [idx t]))
  have hp : (⟨(t.val * 512 + r.val) % 4096, by omega⟩ : Fin 4096) = pos t r := Fin.ext (by unfold pos; simp only; omega)
  rw [Reference6Ideal.Value.proj_at, Reference6Ideal.Value.rows_at]
  simp only [hp]
  unfold target
  congr 1
  funext a l
  rw [Reference6Ideal.Value.heads_at]
  unfold head prod hrow
  refine Finset.sum_congr rfl fun k _ => ?_
  rw [Reference3Ideal.Value.normed_at]
  have hi : (⟨(t.val * 512 + r.val) / 4096 * 4096 + (pos t r).val, by unfold pos; simp only; omega⟩ : Fin 16384) = row t r :=
    Fin.ext (by unfold pos row; simp only; omega)
  simp only [hi]

/-- The other three result arrays are the reference's casts. -/
theorem result_up (c : Dev nD) : (dats m 0 c).arrAt 9 cfg0.N = Reference6Ideal.Value.castUp (wup m c) := by
  refine (dats m 0 c).arrAt_eq_of_covers 9 _ (by decide +kernel) fun t hf y => ?_
  blk_simp
  rw [after0_9]
  have ht := point_lt t
  obtain ⟨r, j, rfl⟩ : ∃ (r : Fin 64) (j : Fin 8192), y = ix2 r j := ⟨y 0, y 1, eq_ix2 y⟩
  refine (slab_up m c t r j).trans (Eq.trans ?_ (b := Reference6Ideal.Value.castUp (wup m c) (ix2 ⟨t.val * 64 + r.val, by omega⟩ j)) (by blk_ext [idx t]))
  rw [Reference6Ideal.Value.castUp_at]
@[inherit_doc result_up] theorem result_down (c : Dev nD) : (dats m 0 c).arrAt 10 cfg0.N = Reference6Ideal.Value.castDown (wdown m c) := by
  refine (dats m 0 c).arrAt_eq_of_covers 10 _ (by decide +kernel) fun t hf y => ?_
  blk_simp
  rw [after0_10]
  have ht := point_lt t
  obtain ⟨r, j, rfl⟩ : ∃ (r : Fin 256) (j : Fin 2048), y = ix2 r j := ⟨y 0, y 1, eq_ix2 y⟩
  refine (slab_down m c t r j).trans (Eq.trans ?_ (b := Reference6Ideal.Value.castDown (wdown m c) (ix2 ⟨t.val * 256 + r.val, by omega⟩ j)) (by blk_ext [idx t]))
  rw [Reference6Ideal.Value.castDown_at]
@[inherit_doc result_up] theorem result_out (c : Dev nD) : (dats m 0 c).arrAt 11 cfg0.N = Reference6Ideal.Value.castOut (wout m c) := by
  refine (dats m 0 c).arrAt_eq_of_covers 11 _ (by decide +kernel) fun t hf y => ?_
  blk_simp
  rw [after0_11]
  have ht := point_lt t
  obtain ⟨r, j, rfl⟩ : ∃ (r : Fin 64) (j : Fin 2048), y = ix2 r j := ⟨y 0, y 1, eq_ix2 y⟩
  refine (slab_out m c t r j).trans (Eq.trans ?_ (b := Reference6Ideal.Value.castOut (wout m c) (ix2 ⟨t.val * 64 + r.val, by omega⟩ j)) (by blk_ext [idx t]))
  rw [Reference6Ideal.Value.castOut_at]

end Cert.Kernel6Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.SwaKernel
public import proofs.«01_k».proof.Proof.MlpKernel
public import proofs.«01_k».proof.Proof.UpKernel
public import proofs.«01_k».proof.Proof.DownKernel
public import proofs.«01_k».proof.Proof.OutKernel
public import proofs.«01_k».proof.Proof.InKernel
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- The precondition's side conditions. -/
theorem preFacts : Cert.Pre_finite_logits.Facts := by
  constructor <;> decide

/-- A test's bit that is one tells the test true. -/
theorem bit_true {p : Prop} [Decidable p] (h : BitVec.ofBool (decide p) = 1#1) : p := by
  by_contra hp
  rw [decide_eq_false hp] at h
  exact absurd h (by decide)

/-- A number of absolute value below plus infinity is finite. -/
theorem finite_of_abs {a : Ideal .f32} (h : FloatOps.absf a < (⊤ : EReal)) : a ≠ (⊤ : EReal) ∧ a ≠ (⊥ : EReal) := by
  change max (a : EReal) (-a) < ⊤ at h
  constructor <;> intro e <;> rw [e] at h <;> simp at h

/-- The reference runs, its arguments end unchanged and, as it declares no semaphore, every counter is zero. -/
theorem frameR (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems (by decide) r.2⟩) (Cert.ReferenceIdeal.Value.run m ρ)

/-- The precondition, read: no sink is plus infinity, every query and every key is finite. -/
theorem finite (m : (ℓ : Loc Cert.KernelIdeal.nD Cert.KernelIdeal.τ Cert.KernelIdeal.sig) → Buf (Elt Ideal) ℓ)
    (h : Pre_KernelIdeal_finite_logits (hPre_finite_logits := preFacts) m) (c : Dev Cert.KernelIdeal.nD) :
    Cert.KernelIdeal.Value.Finite m c := by
  obtain ⟨h0, h1⟩ := h c
  refine ⟨fun i => ?_, fun b t l hl hl' => ?_⟩
  · have e := congrFun h0 (ix1 i)
    pointwise [Cert.Pre_finite_logits.fn] at e
    rw [Cert.Swa.ofBits_pinf] at e
    exact (bit_true e).ne
  · have e := congrFun h1 (ix3 b t ⟨l.val - 3072, by omega⟩)
    pointwise [Cert.Pre_finite_logits.fn] at e
    rw [Cert.Swa.ofBits_pinf] at e
    have e' := bit_true e
    have el : (⟨3072 + (l.val - 3072), by omega⟩ : Fin 4352) = l := Fin.ext (by simp only; omega)
    rw [el] at e'
    exact finite_of_abs e'

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  preFacts,
  fun m ρ _ => Cert.Kernel.Gen.frame m ρ,
  fun m ρ _ => Cert.KernelIdeal.Gen.frame m ρ,
  fun m ρ _ => Cert.KernelIdeal.Gen.frame m ρ,
  fun m ρ _ => frameR m ρ,
  fun m ρ _ => frameR m ρ,
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2.2.2.2, sem_eq_zero_of_no_sems (by decide) r.2⟩) (Cert.Reference6Ideal.Value.run m ρ),
  IdealRules.named_const.statement _ _ .f32 _ _ rfl,
  fun m ρ m' ρ' hpre hag => ⟨fun c => Cert.ReferenceIdeal.Value.attention (Cert.KernelIdeal.Value.proj m c) (Cert.KernelIdeal.Value.sinks m c),
    (θ_run _ _ _).mono (fun _ h c => ⟨(h c).1.trans (Cert.KernelIdeal.Value.result m c (finite m hpre c)), (h c).2⟩)
      (Cert.KernelIdeal.Value.run_blocks m ρ),
    (θ_run _ _ _).mono (fun _ h c => ⟨(h c).1.trans (Cert.ReferenceIdeal.Value.res_eq m' c _ _ (hag c).2 (hag c).1), (h c).2⟩)
      (Cert.ReferenceIdeal.Value.run m' ρ')⟩,
  trivial,
  fun m ρ m' ρ' _ hag => ⟨fun c => Cert.Reference2Ideal.Value.mlp (Cert.Kernel2Ideal.Value.stream m c) (Cert.Kernel2Ideal.Value.gain m c)
      (Cert.Kernel2Ideal.Value.wup m c) (Cert.Kernel2Ideal.Value.wdown m c) (Cert.Kernel2Ideal.Value.last m c),
    (θ_run _ _ _).mono (fun _ h c => ⟨(h c).1.trans (Cert.Kernel2Ideal.Value.result m c), (h c).2⟩) (Cert.Kernel2Ideal.Value.run_blocks m ρ),
    (θ_run _ _ _).mono (fun _ h c => ⟨(h c).1.trans (Cert.Reference2Ideal.Value.res_eq m' c _ _ _ _ _ (hag c).1 (hag c).2.1 (hag c).2.2.1
      (hag c).2.2.2.1 (hag c).2.2.2.2), (h c).2⟩) (Cert.Reference2Ideal.Value.run m' ρ')⟩,
  trivial,
  fun m ρ m' ρ' _ hag => ⟨fun c => Cert.Reference3Ideal.Value.up (Cert.Reference3Ideal.Value.normed (Cert.Kernel3Ideal.Value.stream m c)
      (Cert.Kernel3Ideal.Value.gain m c)) (Cert.Kernel3Ideal.Value.weights m c),
    (θ_run _ _ _).mono (fun _ h c => ⟨(h c).1.trans (Cert.Kernel3Ideal.Value.result m c), (h c).2⟩) (Cert.Kernel3Ideal.Value.run_blocks m ρ),
    (θ_run _ _ _).mono (fun _ h c => ⟨(h c).1.trans (Cert.Reference3Ideal.Value.up_congr (hag c).1 (hag c).2.1 (hag c).2.2), (h c).2⟩)
      (Cert.Reference3Ideal.Value.run m' ρ')⟩,
  trivial,
  fun m ρ m' ρ' _ hag => ⟨fun c => Cert.Reference4Ideal.Value.down (Cert.Kernel4Ideal.Value.act m c) (Cert.Kernel4Ideal.Value.weights m c)
      (Cert.Kernel4Ideal.Value.stream m c),
    (θ_run _ _ _).mono (fun _ h c => ⟨(h c).1.trans (Cert.Kernel4Ideal.Value.result m c), (h c).2⟩) (Cert.Kernel4Ideal.Value.run_blocks m ρ),
    (θ_run _ _ _).mono (fun _ h c => ⟨(h c).1.trans (Cert.Reference4Ideal.Value.down_congr (hag c).1 (hag c).2.1 (hag c).2.2), (h c).2⟩)
      (Cert.Reference4Ideal.Value.run m' ρ')⟩,
  trivial,
  fun m ρ m' ρ' _ hag => ⟨fun c => Cert.Reference5Ideal.Value.proj (Cert.Kernel5Ideal.Value.ya m c) (Cert.Kernel5Ideal.Value.yb m c)
      (Cert.Kernel5Ideal.Value.yc m c) (Cert.Kernel5Ideal.Value.ga m c) (Cert.Kernel5Ideal.Value.gb m c) (Cert.Kernel5Ideal.Value.gc m c)
      (Cert.Kernel5Ideal.Value.wout m c) (Cert.Kernel5Ideal.Value.stream m c),
    fun c => Cert.Reference5Ideal.Value.cast (Cert.Kernel5Ideal.Value.win m c),
    (θ_run _ _ _).mono (fun _ h c => ⟨(h c).1.trans (Cert.Kernel5Ideal.Value.result m c), (h c).2.1.trans (Cert.Kernel5Ideal.Value.result' m c),
      (h c).2.2⟩) (Cert.Kernel5Ideal.Value.run_blocks m ρ),
    (θ_run _ _ _).mono (fun _ h c => ⟨(h c).1.trans (Cert.Reference5Ideal.Value.proj_congr (hag c).1 (hag c).2.1 (hag c).2.2.1 (hag c).2.2.2.1
      (hag c).2.2.2.2.1 (hag c).2.2.2.2.2.1 (hag c).2.2.2.2.2.2.1 (hag c).2.2.2.2.2.2.2.1),
      (h c).2.1.trans (Cert.Reference5Ideal.Value.cast_congr (hag c).2.2.2.2.2.2.2.2), (h c).2.2⟩) (Cert.Reference5Ideal.Value.run m' ρ')⟩,
  trivial,
  fun m ρ m' ρ' _ hag => ⟨fun c => Cert.Reference6Ideal.Value.proj (Cert.Kernel6Ideal.Value.stream m c) (Cert.Kernel6Ideal.Value.gain m c)
      (Cert.Kernel6Ideal.Value.weights m c), fun c => Cert.Reference6Ideal.Value.castUp (Cert.Kernel6Ideal.Value.wup m c),
    fun c => Cert.Reference6Ideal.Value.castDown (Cert.Kernel6Ideal.Value.wdown m c),
    fun c => Cert.Reference6Ideal.Value.castOut (Cert.Kernel6Ideal.Value.wout m c),
    (θ_run _ _ _).mono (fun _ h c => ⟨(h c).1.trans (Cert.Kernel6Ideal.Value.result m c), (h c).2.1.trans (Cert.Kernel6Ideal.Value.result_up m c),
      (h c).2.2.1.trans (Cert.Kernel6Ideal.Value.result_down m c), (h c).2.2.2.1.trans (Cert.Kernel6Ideal.Value.result_out m c),
      (h c).2.2.2.2⟩) (Cert.Kernel6Ideal.Value.run_blocks m ρ),
    (θ_run _ _ _).mono (fun _ h c => ⟨(h c).1.trans (Cert.Reference6Ideal.Value.res_eq m' c _ _ _ (hag c).1 (hag c).2.1 (hag c).2.2.1),
      (h c).2.1.trans (Cert.Reference6Ideal.Value.castUp_congr (hag c).2.2.2.1),
      (h c).2.2.1.trans (Cert.Reference6Ideal.Value.castDown_congr (hag c).2.2.2.2.1),
      (h c).2.2.2.1.trans (Cert.Reference6Ideal.Value.castOut_congr (hag c).2.2.2.2.2), (h c).2.2.2.2⟩) (Cert.Reference6Ideal.Value.run m' ρ')⟩⟩

end Cert.Proof

end
